-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "no_score" .f32 0xFF61B1E6#32 ⊥

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel)
    ∧ quiescent_KernelIdeal (hKernelIdeal := hKernelIdeal)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_sorted_ids.lean ====
abbrev S50000x256 : Shape := ⟨2, ![50000, 256]⟩
abbrev S50000 : Shape := ⟨1, ![50000]⟩
abbrev S512x103 : Shape := ⟨2, ![512, 103]⟩
abbrev S359x32 : Shape := ⟨2, ![359, 32]⟩
abbrev S32 : Shape := ⟨1, ![32]⟩
abbrev S32x1 : Shape := ⟨2, ![32, 1]⟩
abbrev S1 : Shape := ⟨1, ![1]⟩
abbrev S_ : Shape := ⟨0, ![]⟩
abbrev S49999 : Shape := ⟨1, ![49999]⟩

class Facts : Prop where
  bcast_S_S50000 : S_.BroadcastsInDim S50000 (![] : Fin 0 → Fin S50000.rank)
  slices_S50000_S49999_1 : S50000.Slices ![1] S49999
  slices_S50000_S49999_0 : S50000.Slices ![0] S49999

variable [Facts]

def fn {F : FTy → Type} [FloatOps F] (main_arg0 : FVec F S50000x256 .f32) (main_arg1 : IVec S50000 32) (main_arg2 : FVec F S512x103 .f32) (main_arg3 : FVec F S359x32 .f32) (main_arg4 : FVec F S32 .f32) (main_arg5 : FVec F S32x1 .f32) (main_arg6 : FVec F S1 .f32) : IVec S50000 1 × IVec S49999 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_v5 : IVec S49999 32 := (extractStridedSlice S49999 ![1] · slices_S50000_S49999_1) main_arg1
  let main_v6 : IVec S49999 32 := (extractStridedSlice S49999 ![0] · slices_S50000_S49999_0) main_arg1
  let main_v7 : IVec S49999 1 := cmpi .sge main_v5 main_v6
  (main_v4, main_v7)
-- ==== Kernel.lean ====
abbrev S50000x256 : Shape := ⟨2, ![50000, 256]⟩
abbrev S50000 : Shape := ⟨1, ![50000]⟩
abbrev S512x103 : Shape := ⟨2, ![512, 103]⟩
abbrev S359x32 : Shape := ⟨2, ![359, 32]⟩
abbrev S32 : Shape := ⟨1, ![32]⟩
abbrev S32x1 : Shape := ⟨2, ![32, 1]⟩
abbrev S1 : Shape := ⟨1, ![1]⟩
abbrev S125x400x1 : Shape := ⟨3, ![125, 400, 1]⟩
abbrev S1x32 : Shape := ⟨2, ![1, 32]⟩
abbrev S1x1 : Shape := ⟨2, ![1, 1]⟩
abbrev S50000x1 : Shape := ⟨2, ![50000, 1]⟩
abbrev S400x256 : Shape := ⟨2, ![400, 256]⟩
abbrev S1x400x1 : Shape := ⟨3, ![1, 400, 1]⟩
abbrev S400x1 : Shape := ⟨2, ![400, 1]⟩
abbrev S512x32 : Shape := ⟨2, ![512, 32]⟩
abbrev S1x512 : Shape := ⟨2, ![1, 512]⟩
abbrev S400x512 : Shape := ⟨2, ![400, 512]⟩
abbrev S103x32 : Shape := ⟨2, ![103, 32]⟩
abbrev S256x32 : Shape := ⟨2, ![256, 32]⟩
abbrev S400x32 : Shape := ⟨2, ![400, 32]⟩
abbrev S512 : Shape := ⟨1, ![512]⟩
abbrev S400 : Shape := ⟨1, ![400]⟩

abbrev nBuf : Space → Nat
  | .hbm => 11
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S512x103, .f32⟩
  | .hbm, ⟨3, _⟩ => ⟨S359x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S125x400x1, .i32⟩
  | .hbm, ⟨8, _⟩ => ⟨S1x32, .f32⟩
  | .hbm, ⟨9, _⟩ => ⟨S1x1, .f32⟩
  | .hbm, ⟨10, _⟩ => ⟨S50000x1, .f32⟩
  | .local _ .vmem, ⟨0, _⟩ => ⟨S400x256, .f32⟩
  | .local _ .vmem, ⟨1, _⟩ => ⟨S400x256, .f32⟩
  | .local _ .vmem, ⟨2, _⟩ => ⟨S1x400x1, .i32⟩
  | .local _ .vmem, ⟨3, _⟩ => ⟨S1x400x1, .i32⟩
  | .local _ .vmem, ⟨4, _⟩ => ⟨S512x103, .f32⟩
  | .local _ .vmem, ⟨5, _⟩ => ⟨S359x32, .f32⟩
  | .local _ .vmem, ⟨6, _⟩ => ⟨S1x32, .f32⟩
  | .local _ .vmem, ⟨7, _⟩ => ⟨S32x1, .f32⟩
  | .local _ .vmem, ⟨8, _⟩ => ⟨S1x1, .f32⟩
  | .local _ .vmem, ⟨9, _⟩ => ⟨S400x1, .f32⟩
  | .local _ .vmem, ⟨10, _⟩ => ⟨S400x1, .f32⟩
  | .local _ .vmem, ⟨11, _⟩ => ⟨S50000x1, .f32⟩
  | .local _ .vmem, ⟨12, _⟩ => ⟨S512x32, .f32⟩
  | .local _ .vmem, ⟨13, _⟩ => ⟨S1x512, .f32⟩
  | .local _ .vmem, ⟨14, _⟩ => ⟨S1x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![3, 125], ![false, false]⟩

def k0_cond2 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

def k0_off1 (i : grid0.Coords) : Fin 2 → Nat :=
  let arg1 : BitVec 32 := BitVec.ofNat 32 (i 1).val
  let c400_i32 : BitVec 32 := 400#32
  let v7 : BitVec 32 := Scalar.muli arg1 c400_i32
  let v48 : Index := Scalar.indexCast v7
  let c0_22 : Index := 0#32
  ![v48.toNat, 0]
def k0_cond3 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_6 : BitVec 32 := 0#32
  let v18 : BitVec 1 := Scalar.cmpi .ne v17 c0_i32_6
  v18

def k0_off2 (i : grid0.Coords) : Fin 2 → Nat :=
  let arg1 : BitVec 32 := BitVec.ofNat 32 (i 1).val
  let c400_i32 : BitVec 32 := 400#32
  let v7 : BitVec 32 := Scalar.muli arg1 c400_i32
  let v22 : Index := Scalar.indexCast v7
  let c0_8 : Index := 0#32
  ![v22.toNat, 0]
def k0_cond4 (i : grid0.Coords) : BitVec 1 :=
  let arg0 : BitVec 32 := BitVec.ofNat 32 (i 0).val
  let c2_i32 : BitVec 32 := 2#32
  let v19 : BitVec 1 := Scalar.cmpi .eq arg0 c2_i32
  let v20 : BitVec 32 := Scalar.extui v19
  let c0_i32_7 : BitVec 32 := 0#32
  let v21 : BitVec 1 := Scalar.cmpi .ne v20 c0_i32_7
  v21

def k0_off3 (i : grid0.Coords) : Fin 2 → Nat :=
  let arg1 : BitVec 32 := BitVec.ofNat 32 (i 1).val
  let c400_i32 : BitVec 32 := 400#32
  let v7 : BitVec 32 := Scalar.muli arg1 c400_i32
  let v22 : Index := Scalar.indexCast v7
  let c0_8 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x103 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S359x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== KernelIdeal.lean ====
variable {F : FTy → Type} [FloatOps F] [Named F]
def κ : String → Option EReal := fun
  | "no_score" => some ⊥
  | _ => none
-- ==== ReferenceIdeal.lean ====
abbrev S50000x256 : Shape := ⟨2, ![50000, 256]⟩
abbrev S50000 : Shape := ⟨1, ![50000]⟩
abbrev S512x103 : Shape := ⟨2, ![512, 103]⟩
abbrev S359x32 : Shape := ⟨2, ![359, 32]⟩
abbrev S32 : Shape := ⟨1, ![32]⟩
abbrev S32x1 : Shape := ⟨2, ![32, 1]⟩
abbrev S1 : Shape := ⟨1, ![1]⟩
abbrev S_ : Shape := ⟨0, ![]⟩
abbrev S512 : Shape := ⟨1, ![512]⟩
abbrev S50000x1 : Shape := ⟨2, ![50000, 1]⟩
abbrev S511 : Shape := ⟨1, ![511]⟩
abbrev S512x1 : Shape := ⟨2, ![512, 1]⟩
abbrev S1x1 : Shape := ⟨2, ![1, 1]⟩
abbrev S50000x103 : Shape := ⟨2, ![50000, 103]⟩
abbrev S50000x359 : Shape := ⟨2, ![50000, 359]⟩
abbrev S50000x32 : Shape := ⟨2, ![50000, 32]⟩
abbrev S1x32 : Shape := ⟨2, ![1, 32]⟩
abbrev S1x512 : Shape := ⟨2, ![1, 512]⟩
abbrev S50000x512 : Shape := ⟨2, ![50000, 512]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S50000, .i32⟩
  | 2 => ⟨S512x103, .f32⟩
  | 3 => ⟨S359x32, .f32⟩
  | 4 => ⟨S32, .f32⟩
  | 5 => ⟨S32x1, .f32⟩
  | 6 => ⟨S1, .f32⟩
  | 7 => ⟨S_, .i32⟩
  | 8 => ⟨S512, .i32⟩
  | 9 => ⟨S_, .i32⟩
  | 10 => ⟨S_, .i32⟩
  | 11 => ⟨S50000, .i32⟩
  | 12 => ⟨S50000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S_, .i32⟩
  | 22 => ⟨S50000, .i32⟩
  | 23 => ⟨S512, .i32⟩
  | 24 => ⟨S1, .i32⟩
  | 25 => ⟨S511, .i32⟩
  | 26 => ⟨S512, .i32⟩
  | 27 => ⟨S_, .i32⟩
  | 28 => ⟨S1, .i32⟩
  | 29 => ⟨S_, .i32⟩
  | 30 => ⟨S512, .i32⟩
  | 31 => ⟨S_, .i32⟩
  | 32 => ⟨S_, .i32⟩
  | 33 => ⟨S512, .i32⟩
  | 34 => ⟨S_, .i32⟩
  | 35 => ⟨S50000, .i32⟩
  | 36 => ⟨S_, .i32⟩
  | 37 => ⟨S512, .i32⟩
  | 38 => ⟨S512, .i1⟩
  | 39 => ⟨S_, .i32⟩
  | 40 => ⟨S512, .i32⟩
  | 41 => ⟨S512, .i32⟩
  | 42 => ⟨S512, .i32⟩
  | 43 => ⟨S512x1, .i32⟩
  | 44 => ⟨S_, .i32⟩
  | 45 => ⟨S512, .i32⟩
  | 46 => ⟨S50000, .i32⟩
  | 47 => ⟨S_, .i32⟩
  | 48 => ⟨S_, .i32⟩
  | 49 => ⟨S50000, .i32⟩
  | 50 => ⟨S_, .i32⟩
  | 51 => ⟨S50000, .i32⟩
  | 52 => ⟨S50000, .i32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S1, .i32⟩
  | 62 => ⟨S_, .i32⟩
  | 63 => ⟨S50000x1, .i32⟩
  | 64 => ⟨S50000x1, .i1⟩
  | 65 => ⟨S1x1, .i32⟩
  | 66 => ⟨S50000x1, .i32⟩
  | 67 => ⟨S50000x1, .i1⟩
  | 68 => ⟨S50000x1, .i1⟩
  | 69 => ⟨S_, .i1⟩
  | 70 => ⟨S50000, .i1⟩
  | 71 => ⟨S50000x103, .f32⟩
  | 72 => ⟨S50000x103, .i1⟩
  | 73 => ⟨S_, .f32⟩
  | 74 => ⟨S50000x103, .f32⟩
  | 75 => ⟨S50000x103, .f32⟩
  | 76 => ⟨S50000x359, .f32⟩
  | 77 => ⟨S50000x32, .f32⟩
  | 78 => ⟨S1x32, .f32⟩
  | 79 => ⟨S50000x32, .f32⟩
  | 80 => ⟨S50000x32, .f32⟩
  | 81 => ⟨S_, .f32⟩
  | 82 => ⟨S50000x32, .f32⟩
  | 83 => ⟨S50000x32, .f32⟩
  | 84 => ⟨S50000x32, .f32⟩
  | 85 => ⟨S50000x32, .f32⟩
  | 86 => ⟨S50000x32, .i1⟩
  | 87 => ⟨S50000x32, .f32⟩
  | 88 => ⟨S50000x32, .f32⟩
  | 89 => ⟨S50000x32, .f32⟩
  | 90 => ⟨S50000x32, .f32⟩
  | 91 => ⟨S50000x32, .f32⟩
  | 92 => ⟨S50000x32, .f32⟩
  | 93 => ⟨S50000x32, .f32⟩
  | 94 => ⟨S50000x32, .f32⟩
  | 95 => ⟨S50000x1, .f32⟩
  | 96 => ⟨S1x1, .f32⟩
  | 97 => ⟨S50000x1, .f32⟩
  | 98 => ⟨S50000x1, .f32⟩
  | 99 => ⟨S50000x1, .i32⟩
  | 100 => ⟨S512, .i32⟩
  | 101 => ⟨S1x512, .i32⟩
  | 102 => ⟨S50000x512, .i32⟩
  | 103 => ⟨S50000x512, .i32⟩
  | 104 => ⟨S50000x512, .i1⟩
  | 105 => ⟨S_, .f32⟩
  | 106 => ⟨S_, .f32⟩
  | 107 => ⟨S50000x512, .f32⟩
  | 108 => ⟨S50000x512, .f32⟩
  | 109 => ⟨S50000x512, .f32⟩
  | 110 => ⟨S_, .f32⟩
  | 111 => ⟨S512, .f32⟩
  | 112 => ⟨S512x1, .f32⟩
  | 113 => ⟨S512x1, .f32⟩
  | 114 => ⟨S_, .f32⟩
  | 115 => ⟨S512x1, .f32⟩
  | 116 => ⟨S512x1, .i1⟩
  | 117 => ⟨S_, .f32⟩
  | 118 => ⟨S_, .f32⟩
  | 119 => ⟨S512x1, .f32⟩
  | 120 => ⟨S512x1, .f32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000x256, .f32⟩

abbrev hbmTy0_1 (i : Nat) : BufTy := match i % 128 with
  | 0 => ⟨S50000x1, .i32⟩
  | 1 => ⟨S50000x1, .f32⟩
  | 2 => ⟨S50000x1, .f32⟩
  | 3 => ⟨S50000x1, .f32⟩
  | 4 => ⟨S_, .f32⟩
  | 5 => ⟨S512x1, .f32⟩
  | 6 => ⟨S50000x1, .i32⟩
  | 7 => ⟨S512x1, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x1, .f32⟩
  | 17 => ⟨S_, .f32⟩
  | 18 => ⟨S50000x1, .f32⟩
  | 19 => ⟨S50000x1, .f32⟩
  | 20 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_6 : Ref sig .tc := ⟨.hbm, 34, rfl⟩
abbrev main_v14 : Ref sig .tc := ⟨.hbm, 35, rfl⟩
abbrev main_c_7 : Ref sig .tc := ⟨.hbm, 36, rfl⟩
abbrev main_v15 : Ref sig .tc := ⟨.hbm, 37, rfl⟩
abbrev main_v16 : Ref sig .tc := ⟨.hbm, 38, rfl⟩
abbrev main_c_8 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_9 : Ref sig .tc := ⟨.hbm, 44, rfl⟩
abbrev main_v21 : Ref sig .tc := ⟨.hbm, 45, rfl⟩
abbrev main_v22 : Ref sig .tc := ⟨.hbm, 46, rfl⟩
abbrev main_call3_call0_c : Ref sig .tc := ⟨.hbm, 47, rfl⟩
abbrev main_call3_call0_v0 : Ref sig .tc := ⟨.hbm, 48, rfl⟩
abbrev main_v23 : Ref sig .tc := ⟨.hbm, 49, rfl⟩
abbrev main_c_10 : Ref sig .tc := ⟨.hbm, 50, rfl⟩
abbrev main_v24 : Ref sig .tc := ⟨.hbm, 51, rfl⟩
abbrev main_v25 : Ref sig .tc := ⟨.hbm, 52, rfl⟩
abbrev main_call4_c : Ref sig .tc := ⟨.hbm, 53, rfl⟩
abbrev main_call4_v0 : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_c_1 : Ref sig .tc := ⟨.hbm, 61, rfl⟩
abbrev main_call4_c_2 : Ref sig .tc := ⟨.hbm, 62, rfl⟩
abbrev main_call4_v6 : Ref sig .tc := ⟨.hbm, 63, rfl⟩
abbrev main_call4_v7 : Ref sig .tc := ⟨.hbm, 64, rfl⟩
abbrev main_call4_v8 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_3 : Ref sig .tc := ⟨.hbm, 69, rfl⟩
abbrev main_call4_v12 : Ref sig .tc := ⟨.hbm, 70, rfl⟩
abbrev main_call4_v13 : Ref sig .tc := ⟨.hbm, 71, rfl⟩
abbrev main_call4_v14 : Ref sig .tc := ⟨.hbm, 72, rfl⟩
abbrev main_call4_cst : Ref sig .tc := ⟨.hbm, 73, rfl⟩
abbrev main_call4_v15 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_call5_cst : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v43 : Ref sig .tc := ⟨.hbm, 109, rfl⟩
abbrev main_cst_11 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_12 : Ref sig .tc := ⟨.hbm, 114, rfl⟩
abbrev main_v47 : Ref sig .tc := ⟨.hbm, 115, rfl⟩
abbrev main_v48 : Ref sig .tc := ⟨.hbm, 116, rfl⟩
abbrev main_cst_13 : Ref sig .tc := ⟨.hbm, 117, rfl⟩
abbrev main_call7_v0 : Ref sig .tc := ⟨.hbm, 118, rfl⟩
abbrev main_call7_v1 : Ref sig .tc := ⟨.hbm, 119, rfl⟩
abbrev main_v49 : Ref sig .tc := ⟨.hbm, 120, rfl⟩
abbrev main_c_14 : Ref sig .tc := ⟨.hbm, 121, rfl⟩
abbrev main_v50 : Ref sig .tc := ⟨.hbm, 122, rfl⟩
abbrev main_v51 : Ref sig .tc := ⟨.hbm, 123, rfl⟩
abbrev main_c_15 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_16 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_c_17 : Ref sig .tc := ⟨.hbm, 136, rfl⟩
abbrev main_v62 : Ref sig .tc := ⟨.hbm, 137, rfl⟩
abbrev main_v63 : Ref sig .tc := ⟨.hbm, 138, rfl⟩
abbrev main_c_18 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_19 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩

abbrev nD : Nat := 1
abbrev τ : Topo := Topo.v7x

variable {F : FTy → Type} [FloatOps F]
-- ==== Proof.KernelIdealBody.lean ====
/-
  Hand-written, untrusted. The kernel's body at one grid point, run once per phase of the grid by symbolic execution: from the
  buffers the phase touches, each held at named contents, to the same buffers at the contents the phase leaves. Three phases
  (scores and running maxima; exponentials and running sums; quotients), the first also at the first point, where the
  per-segment part of the first layer is computed beforehand.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.TableIdle
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first conditional's word: one exactly at the first point of the first phase. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The rows of a point lie in the score scratch. -/
theorem rows_inb (i : grid0.Coords) (h : 400 * (i 1).val + 400 ≤ 50000) : ∀ a, (![400 * (i 1).val, 0] : Fin 2 → ℕ) a + S400x1.size a ≤ S50000x1.size a := by
  intro a; fin_cases a
  · exact h
  · exact Nat.le_refl 1

/-- The rows of the score scratch that point `i` reads and writes. -/
abbrev rows (i : grid0.Coords) (h : 400 * (i 1).val + 400 ≤ 50000) (s : Vec F S50000x1 .f32) : Vec F S400x1 .f32 :=
  VecWindow.window s ![400 * (i 1).val, 0] S400x1.size (rows_inb i h)

/-- Owning a memref at `X` is holding its elements at the representative of `X`. -/
theorem own_rep (c : Dev nD) {sp : Space} {S : Shape} {e : EltTy} (M : Memref sig .tc sp S e) (X : Vec F S e) :
    (owns (c : Thread nD τ) M fullShare X : sProp 𝕄) = (M.view.loc (c : Thread nD τ) ↦[M.view.set]{fullShare} M.view.rep X) :=
  owns_eq_rep (c : Thread nD τ) M fullShare X

/-- The part of the first layer's weights that multiplies a node's own row. -/
abbrev wTop (w1 : Vec F S359x32 .f32) : Vec F S256x32 .f32 := VecWindow.window w1 ![0, 0] S256x32.size inb_S359x32_S256x32_0_0
/-- The part of the first layer's weights that multiplies a segment's row. -/
abbrev wBot (w1 : Vec F S359x32 .f32) : Vec F S103x32 .f32 := VecWindow.window w1 ![256, 0] S103x32.size inb_S359x32_S103x32_256_0
/-- The score scratch with the rows of point `i` replaced. -/
abbrev putRows (i : grid0.Coords) (s : Vec F S50000x1 .f32) (w : Vec F S400x1 .f32) : Vec F S50000x1 .f32 :=
  VecWindow.put s ![400 * (i 1).val, 0] S400x1.size w
/-- Whether the point is the first of its phase. -/
abbrev first (i : grid0.Coords) : BitVec 1 := Scalar.cmpi .eq (BitVec.ofNat 32 (i 1).val) 0#32

/-- The first point: the segments' part of the first layer is stored, then the point's scores and the running maxima are stored over it. -/
theorem body_A (c : Dev nD) (i : grid0.Coords)
    (arg2 : Memref sig .tc .vmem S400x256 .f32) (harg2 : arg2.IsWhole) (arg3 : Memref sig .tc .vmem S1x400x1 .i32) (harg3 : arg3.IsWhole) (arg4 : Memref sig .tc .vmem S512x103 .f32) (harg4 : arg4.IsWhole) (arg5 : Memref sig .tc .vmem S359x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S400x1 .f32) (harg9 : arg9.IsWhole) (arg10 : Memref sig .tc .vmem S50000x1 .f32) (harg10 : arg10.IsWhole) (arg11 : Memref sig .tc .vmem S512x32 .f32) (harg11 : arg11.IsWhole) (arg12 : Memref sig .tc .vmem S1x512 .f32) (harg12 : arg12.IsWhole) (arg13 : Memref sig .tc .vmem S1x512 .f32) (harg13 : arg13.IsWhole)
    (h1 : cond1 i = 1#1) (h2 : k0_cond2 i = 1#1) (h3 : ¬ k0_cond3 i = 1#1) (h4 : ¬ k0_cond4 i = 1#1) (hb : 400 * (i 1).val + 400 ≤ 50000)
    (x : Vec F S400x256 .f32) (ids : Vec F S1x400x1 .i32) (gf : Vec F S512x103 .f32) (w1 : Vec F S359x32 .f32) (b1 : Vec F S1x32 .f32) (w2 : Vec F S32x1 .f32) (b2 : Vec F S1x1 .f32) (s : Vec F S50000x1 .f32) (g : Vec F S512x32 .f32) (mm : Vec F S1x512 .f32) (K : PUnit → sProp 𝕄) :
    iprop(owns (c : Thread nD τ) arg2 fullShare x ∗ owns (c : Thread nD τ) arg3 fullShare ids ∗ owns (c : Thread nD τ) arg4 fullShare gf ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg10 fullShare s ∗ owns (c : Thread nD τ) arg11 fullShare g ∗ owns (c : Thread nD τ) arg12 fullShare mm
        ∗ (iprop(owns (c : Thread nD τ) arg2 fullShare x ∗ owns (c : Thread nD τ) arg3 fullShare ids ∗ owns (c : Thread nD τ) arg4 fullShare gf ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg10 fullShare (putRows i s (k0_pay10 (k0_pay2 ids) x (wTop w1) (k0_pay3 gf (wBot w1) b1) w2 b2)) ∗ owns (c : Thread nD τ) arg11 fullShare (k0_pay3 gf (wBot w1) b1) ∗ owns (c : Thread nD τ) arg12 fullShare (k0_pay4 (k0_pay11 (k0_pay1 ids) (k0_pay2 ids) x (wTop w1) (k0_pay3 gf (wBot w1) b1) w2 b2) (first i) k0_pay12 mm)) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton]
  rw [own_rep c arg2 x, own_rep c arg3 ids, own_rep c arg4 gf, own_rep c arg5 w1, own_rep c arg6 b1, own_rep c arg7 w2, own_rep c arg8 b2, own_rep c arg10 s, own_rep c arg11 g, own_rep c arg12 mm]
  iintro ⟨H2, H3, H4, H5, H6, H7, H8, H10, H11, H12, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]
  · unfold owns; iexists _; isplitr; swap; · iexact H10
    ipureintro
    sl_unfold_words
    refine (View.read_writes_rep_unit _ _ _ _ (k0_off1_eq i)).trans ?_
    have e3 : View.readAt (Elt F) arg3.view (Rect.unit (s := S1x400x1) ![0, 0, 0] ![1, 400, 1] inb_S1x400x1_S1x400x1_0_0_0).toLoadRect (arg3.view.rep ids) = ids := View.readAt_rep_full arg3.view ids _
    have e12 : View.readAt (Elt F) arg12.view (Rect.unit (s := S1x512) ![0, 0] ![1, 512] inb_S1x512_S1x512_0_0).toLoadRect (arg12.view.rep mm) = mm := View.readAt_rep_full arg12.view mm _
    have e5 : View.readAt (Elt F) arg5.view (Rect.unit (s := S359x32) ![0, 0] S256x32.size inb_S359x32_S256x32_0_0).toLoadRect (arg5.view.rep w1) = wTop w1 := View.readAt_rep_unit arg5.view w1 _ rfl _
    have e5' : View.readAt (Elt F) arg5.view (Rect.unit (s := S359x32) ![256, 0] S103x32.size inb_S359x32_S103x32_256_0).toLoadRect (arg5.view.rep w1) = wBot w1 := View.readAt_rep_unit arg5.view w1 _ rfl _
    have e2 : View.readAt (Elt F) arg2.view (Rect.unit (s := S400x256) ![0, 0] ![400, 256] inb_S400x256_S400x256_0_0).toLoadRect (arg2.view.rep x) = x := View.readAt_rep_full arg2.view x _
    have e7 : View.readAt (Elt F) arg7.view (Rect.unit (s := S32x1) ![0, 0] ![32, 1] inb_S32x1_S32x1_0_0).toLoadRect (arg7.view.rep w2) = w2 := View.readAt_rep_full arg7.view w2 _
    have e8 : View.readAt (Elt F) arg8.view (Rect.unit (s := S1x1) ![0, 0] ![1, 1] inb_S1x1_S1x1_0_0).toLoadRect (arg8.view.rep b2) = b2 := View.readAt_rep_full arg8.view b2 _
    have e4 : View.readAt (Elt F) arg4.view (Rect.unit (s := S512x103) ![0, 0] ![512, 103] inb_S512x103_S512x103_0_0).toLoadRect (arg4.view.rep gf) = gf := View.readAt_rep_full arg4.view gf _
    have e6 : View.readAt (Elt F) arg6.view (Rect.unit (s := S1x32) ![0, 0] ![1, 32] inb_S1x32_S1x32_0_0).toLoadRect (arg6.view.rep b1) = b1 := View.readAt_rep_full arg6.view b1 _
    have e11 : ∀ w : Vec F S512x32 .f32, arg11.view.readCov [⟨Rect.unit (s := S512x32) ![0, 0] ![512, 32] inb_S512x32_S512x32_0_0, w⟩] (Rect.unit (s := S512x32) ![0, 0] ![512, 32] inb_S512x32_S512x32_0_0).toLoadRect = w := fun w => View.readCov_full arg11.view _ _ w []
    simp only [View.readAt_rep_full, View.readCov_full, e3, e12, e5, e5', e2, e7, e8, e4, e6, e11]; try rfl
  isplitl [H11]
  · unfold owns; iexists _; isplitr; swap; · iexact H11
    ipureintro
    sl_unfold_words
    refine (View.read_writes_full _ _ _ _ _).trans ?_
    have e3 : View.readAt (Elt F) arg3.view (Rect.unit (s := S1x400x1) ![0, 0, 0] ![1, 400, 1] inb_S1x400x1_S1x400x1_0_0_0).toLoadRect (arg3.view.rep ids) = ids := View.readAt_rep_full arg3.view ids _
    have e12 : View.readAt (Elt F) arg12.view (Rect.unit (s := S1x512) ![0, 0] ![1, 512] inb_S1x512_S1x512_0_0).toLoadRect (arg12.view.rep mm) = mm := View.readAt_rep_full arg12.view mm _
    have e5 : View.readAt (Elt F) arg5.view (Rect.unit (s := S359x32) ![0, 0] S256x32.size inb_S359x32_S256x32_0_0).toLoadRect (arg5.view.rep w1) = wTop w1 := View.readAt_rep_unit arg5.view w1 _ rfl _
    have e5' : View.readAt (Elt F) arg5.view (Rect.unit (s := S359x32) ![256, 0] S103x32.size inb_S359x32_S103x32_256_0).toLoadRect (arg5.view.rep w1) = wBot w1 := View.readAt_rep_unit arg5.view w1 _ rfl _
    have e2 : View.readAt (Elt F) arg2.view (Rect.unit (s := S400x256) ![0, 0] ![400, 256] inb_S400x256_S400x256_0_0).toLoadRect (arg2.view.rep x) = x := View.readAt_rep_full arg2.view x _
    have e7 : View.readAt (Elt F) arg7.view (Rect.unit (s := S32x1) ![0, 0] ![32, 1] inb_S32x1_S32x1_0_0).toLoadRect (arg7.view.rep w2) = w2 := View.readAt_rep_full arg7.view w2 _
    have e8 : View.readAt (Elt F) arg8.view (Rect.unit (s := S1x1) ![0, 0] ![1, 1] inb_S1x1_S1x1_0_0).toLoadRect (arg8.view.rep b2) = b2 := View.readAt_rep_full arg8.view b2 _
    have e4 : View.readAt (Elt F) arg4.view (Rect.unit (s := S512x103) ![0, 0] ![512, 103] inb_S512x103_S512x103_0_0).toLoadRect (arg4.view.rep gf) = gf := View.readAt_rep_full arg4.view gf _
    have e6 : View.readAt (Elt F) arg6.view (Rect.unit (s := S1x32) ![0, 0] ![1, 32] inb_S1x32_S1x32_0_0).toLoadRect (arg6.view.rep b1) = b1 := View.readAt_rep_full arg6.view b1 _
    have e11 : ∀ w : Vec F S512x32 .f32, arg11.view.readCov [⟨Rect.unit (s := S512x32) ![0, 0] ![512, 32] inb_S512x32_S512x32_0_0, w⟩] (Rect.unit (s := S512x32) ![0, 0] ![512, 32] inb_S512x32_S512x32_0_0).toLoadRect = w := fun w => View.readCov_full arg11.view _ _ w []
    simp only [View.readAt_rep_full, View.readCov_full, e3, e12, e5, e5', e2, e7, e8, e4, e6, e11]; try rfl
  unfold owns; iexists _; isplitr; swap; · iexact H12
  ipureintro
  sl_unfold_words
  refine (View.read_writes_full _ _ _ _ _).trans ?_
  have e3 : View.readAt (Elt F) arg3.view (Rect.unit (s := S1x400x1) ![0, 0, 0] ![1, 400, 1] inb_S1x400x1_S1x400x1_0_0_0).toLoadRect (arg3.view.rep ids) = ids := View.readAt_rep_full arg3.view ids _
  have e12 : View.readAt (Elt F) arg12.view (Rect.unit (s := S1x512) ![0, 0] ![1, 512] inb_S1x512_S1x512_0_0).toLoadRect (arg12.view.rep mm) = mm := View.readAt_rep_full arg12.view mm _
  have e5 : View.readAt (Elt F) arg5.view (Rect.unit (s := S359x32) ![0, 0] S256x32.size inb_S359x32_S256x32_0_0).toLoadRect (arg5.view.rep w1) = wTop w1 := View.readAt_rep_unit arg5.view w1 _ rfl _
  have e5' : View.readAt (Elt F) arg5.view (Rect.unit (s := S359x32) ![256, 0] S103x32.size inb_S359x32_S103x32_256_0).toLoadRect (arg5.view.rep w1) = wBot w1 := View.readAt_rep_unit arg5.view w1 _ rfl _
  have e2 : View.readAt (Elt F) arg2.view (Rect.unit (s := S400x256) ![0, 0] ![400, 256] inb_S400x256_S400x256_0_0).toLoadRect (arg2.view.rep x) = x := View.readAt_rep_full arg2.view x _
  have e7 : View.readAt (Elt F) arg7.view (Rect.unit (s := S32x1) ![0, 0] ![32, 1] inb_S32x1_S32x1_0_0).toLoadRect (arg7.view.rep w2) = w2 := View.readAt_rep_full arg7.view w2 _
  have e8 : View.readAt (Elt F) arg8.view (Rect.unit (s := S1x1) ![0, 0] ![1, 1] inb_S1x1_S1x1_0_0).toLoadRect (arg8.view.rep b2) = b2 := View.readAt_rep_full arg8.view b2 _
  have e4 : View.readAt (Elt F) arg4.view (Rect.unit (s := S512x103) ![0, 0] ![512, 103] inb_S512x103_S512x103_0_0).toLoadRect (arg4.view.rep gf) = gf := View.readAt_rep_full arg4.view gf _
  have e6 : View.readAt (Elt F) arg6.view (Rect.unit (s := S1x32) ![0, 0] ![1, 32] inb_S1x32_S1x32_0_0).toLoadRect (arg6.view.rep b1) = b1 := View.readAt_rep_full arg6.view b1 _
  have e11 : ∀ w : Vec F S512x32 .f32, arg11.view.readCov [⟨Rect.unit (s := S512x32) ![0, 0] ![512, 32] inb_S512x32_S512x32_0_0, w⟩] (Rect.unit (s := S512x32) ![0, 0] ![512, 32] inb_S512x32_S512x32_0_0).toLoadRect = w := fun w => View.readCov_full arg11.view _ _ w []
  simp only [View.readAt_rep_full, View.readCov_full, e3, e12, e5, e5', e2, e7, e8, e4, e6, e11]; try rfl

/-- The first phase at a later point: the point's scores and the running maxima are stored, the segments' part of the first layer being read. -/
theorem body_B (c : Dev nD) (i : grid0.Coords)
    (arg2 : Memref sig .tc .vmem S400x256 .f32) (harg2 : arg2.IsWhole) (arg3 : Memref sig .tc .vmem S1x400x1 .i32) (harg3 : arg3.IsWhole) (arg4 : Memref sig .tc .vmem S512x103 .f32) (harg4 : arg4.IsWhole) (arg5 : Memref sig .tc .vmem S359x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S400x1 .f32) (harg9 : arg9.IsWhole) (arg10 : Memref sig .tc .vmem S50000x1 .f32) (harg10 : arg10.IsWhole) (arg11 : Memref sig .tc .vmem S512x32 .f32) (harg11 : arg11.IsWhole) (arg12 : Memref sig .tc .vmem S1x512 .f32) (harg12 : arg12.IsWhole) (arg13 : Memref sig .tc .vmem S1x512 .f32) (harg13 : arg13.IsWhole)
    (h1 : ¬ cond1 i = 1#1) (h2 : k0_cond2 i = 1#1) (h3 : ¬ k0_cond3 i = 1#1) (h4 : ¬ k0_cond4 i = 1#1) (hb : 400 * (i 1).val + 400 ≤ 50000)
    (x : Vec F S400x256 .f32) (ids : Vec F S1x400x1 .i32) (w1 : Vec F S359x32 .f32) (w2 : Vec F S32x1 .f32) (b2 : Vec F S1x1 .f32) (s : Vec F S50000x1 .f32) (g : Vec F S512x32 .f32) (mm : Vec F S1x512 .f32) (K : PUnit → sProp 𝕄) :
    iprop(owns (c : Thread nD τ) arg2 fullShare x ∗ owns (c : Thread nD τ) arg3 fullShare ids ∗ owns (c : Thread nD τ) arg5 fullShare w1 ∗ owns (c : Thread nD τ) arg7 fullShare w2 ∗ owns (c : Thread nD τ) arg8 fullShare b2 ∗ owns (c : Thread nD τ) arg10 fullShare s ∗ owns (c : Thread nD τ) arg11 fullShare g ∗ owns (c : Thread nD τ) arg12 fullShare mm
        ∗ (iprop(owns (c : Thread nD τ) arg2 fullShare x ∗ owns (c : Thread nD τ) arg3 fullShare ids ∗ owns (c : Thread nD τ) arg5 fullShare w1 ∗ owns (c : Thread nD τ) arg7 fullShare w2 ∗ owns (c : Thread nD τ) arg8 fullShare b2 ∗ owns (c : Thread nD τ) arg10 fullShare (putRows i s (k0_pay10 (k0_pay2 ids) x (wTop w1) g w2 b2)) ∗ owns (c : Thread nD τ) arg11 fullShare g ∗ owns (c : Thread nD τ) arg12 fullShare (k0_pay4 (k0_pay11 (k0_pay1 ids) (k0_pay2 ids) x (wTop w1) g w2 b2) (first i) k0_pay12 mm)) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  simp only [k0_part1_eq_skeleton]
  rw [own_rep c arg2 x, own_rep c arg3 ids, own_rep c arg5 w1, own_rep c arg7 w2, own_rep c arg8 b2, own_rep c arg10 s, own_rep c arg11 g, own_rep c arg12 mm]
  iintro ⟨H2, H3, H5, H7, H8, H10, H11, H12, Hk⟩
  sl_exec
  sl_step
  iapply Hk
  isplitl [H2]; · iexact H2
  isplitl [H3]; · iexact H3
  isplitl [H5]; · iexact H5
  isplitl [H7]; · iexact H7
  isplitl [H8]; · iexact H8
  isplitl [H10]
  · unfold owns; iexists _; isplitr; swap; · iexact H10
    ipureintro
    sl_unfold_words
    refine (View.read_writes_rep_unit _ _ _ _ (k0_off1_eq i)).trans ?_
    have e3 : View.readAt (Elt F) arg3.view (Rect.unit (s := S1x400x1) ![0, 0, 0] ![1, 400, 1] inb_S1x400x1_S1x400x1_0_0_0).toLoadRect (arg3.view.rep ids) = ids := View.readAt_rep_full arg3.view ids _
    have e12 : View.readAt (Elt F) arg12.view (Rect.unit (s := S1x512) ![0, 0] ![1, 512] inb_S1x512_S1x512_0_0).toLoadRect (arg12.view.rep mm) = mm := View.readAt_rep_full arg12.view mm _
    have e5 : View.readAt (Elt F) arg5.view (Rect.unit (s := S359x32) ![0, 0] S256x32.size inb_S359x32_S256x32_0_0).toLoadRect (arg5.view.rep w1) = wTop w1 := View.readAt_rep_unit arg5.view w1 _ rfl _
    have e2 : View.readAt (Elt F) arg2.view (Rect.unit (s := S400x256) ![0, 0] ![400, 256] inb_S400x256_S400x256_0_0).toLoadRect (arg2.view.rep x) = x := View.readAt_rep_full arg2.view x _
    have e7 : View.readAt (Elt F) arg7.view (Rect.unit (s := S32x1) ![0, 0] ![32, 1] inb_S32x1_S32x1_0_0).toLoadRect (arg7.view.rep w2) = w2 := View.readAt_rep_full arg7.view w2 _
    have e8 : View.readAt (Elt F) arg8.view (Rect.unit (s := S1x1) ![0, 0] ![1, 1] inb_S1x1_S1x1_0_0).toLoadRect (arg8.view.rep b2) = b2 := View.readAt_rep_full arg8.view b2 _
    have e11 : View.readAt (Elt F) arg11.view (Rect.unit (s := S512x32) ![0, 0] ![512, 32] inb_S512x32_S512x32_0_0).toLoadRect (arg11.view.rep g) = g := View.readAt_rep_full arg11.view g _
    simp only [View.readAt_rep_full, View.readCov_full, e3, e12, e5, e2, e7, e8, e11]; try rfl
  isplitl [H11]; · iexact H11
  unfold owns; iexists _; isplitr; swap; · iexact H12
  ipureintro
  sl_unfold_words
  refine (View.read_writes_full _ _ _ _ _).trans ?_
  have e3 : View.readAt (Elt F) arg3.view (Rect.unit (s := S1x400x1) ![0, 0, 0] ![1, 400, 1] inb_S1x400x1_S1x400x1_0_0_0).toLoadRect (arg3.view.rep ids) = ids := View.readAt_rep_full arg3.view ids _
  have e12 : View.readAt (Elt F) arg12.view (Rect.unit (s := S1x512) ![0, 0] ![1, 512] inb_S1x512_S1x512_0_0).toLoadRect (arg12.view.rep mm) = mm := View.readAt_rep_full arg12.view mm _
  have e5 : View.readAt (Elt F) arg5.view (Rect.unit (s := S359x32) ![0, 0] S256x32.size inb_S359x32_S256x32_0_0).toLoadRect (arg5.view.rep w1) = wTop w1 := View.readAt_rep_unit arg5.view w1 _ rfl _
  have e2 : View.readAt (Elt F) arg2.view (Rect.unit (s := S400x256) ![0, 0] ![400, 256] inb_S400x256_S400x256_0_0).toLoadRect (arg2.view.rep x) = x := View.readAt_rep_full arg2.view x _
  have e7 : View.readAt (Elt F) arg7.view (Rect.unit (s := S32x1) ![0, 0] ![32, 1] inb_S32x1_S32x1_0_0).toLoadRect (arg7.view.rep w2) = w2 := View.readAt_rep_full arg7.view w2 _
  have e8 : View.readAt (Elt F) arg8.view (Rect.unit (s := S1x1) ![0, 0] ![1, 1] inb_S1x1_S1x1_0_0).toLoadRect (arg8.view.rep b2) = b2 := View.readAt_rep_full arg8.view b2 _
  have e11 : View.readAt (Elt F) arg11.view (Rect.unit (s := S512x32) ![0, 0] ![512, 32] inb_S512x32_S512x32_0_0).toLoadRect (arg11.view.rep g) = g := View.readAt_rep_full arg11.view g _
  simp only [View.readAt_rep_full, View.readCov_full, e3, e12, e5, e2, e7, e8, e11]; try rfl

/-- The second phase at one point: the point's scores become exponentials, which are added to the segments' running sums. -/
theorem body_C (c : Dev nD) (i : grid0.Coords)
    (arg2 : Memref sig .tc .vmem S400x256 .f32) (harg2 : arg2.IsWhole) (arg3 : Memref sig .tc .vmem S1x400x1 .i32) (harg3 : arg3.IsWhole) (arg4 : Memref sig .tc .vmem S512x103 .f32) (harg4 : arg4.IsWhole) (arg5 : Memref sig .tc .vmem S359x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S400x1 .f32) (harg9 : arg9.IsWhole) (arg10 : Memref sig .tc .vmem S50000x1 .f32) (harg10 : arg10.IsWhole) (arg11 : Memref sig .tc .vmem S512x32 .f32) (harg11 : arg11.IsWhole) (arg12 : Memref sig .tc .vmem S1x512 .f32) (harg12 : arg12.IsWhole) (arg13 : Memref sig .tc .vmem S1x512 .f32) (harg13 : arg13.IsWhole)
    (h1 : ¬ cond1 i = 1#1) (h2 : ¬ k0_cond2 i = 1#1) (h3 : k0_cond3 i = 1#1) (h4 : ¬ k0_cond4 i = 1#1) (hb : 400 * (i 1).val + 400 ≤ 50000)
    (ids : Vec F S1x400x1 .i32) (s : Vec F S50000x1 .f32) (mm : Vec F S1x512 .f32) (d : Vec F S1x512 .f32) (K : PUnit → sProp 𝕄) :
    iprop(owns (c : Thread nD τ) arg3 fullShare ids ∗ owns (c : Thread nD τ) arg10 fullShare s ∗ owns (c : Thread nD τ) arg12 fullShare mm ∗ owns (c : Thread nD τ) arg13 fullShare d
        ∗ (iprop(owns (c : Thread nD τ) arg3 fullShare ids ∗ owns (c : Thread nD τ) arg10 fullShare (putRows i s (k0_pay6 ids (rows i hb s) mm)) ∗ owns (c : Thread nD τ) arg12 fullShare mm ∗ owns (c : Thread nD τ) arg13 fullShare (k0_pay7 i ids (rows i hb s) mm d)) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  rw [own_rep c arg3 ids, own_rep c arg10 s, own_rep c arg12 mm, own_rep c arg13 d]
  iintro ⟨H3, H10, H12, H13, Hk⟩
  sl_exec
  sl_step
  iapply Hk
  isplitl [H3]; · iexact H3
  isplitl [H10]
  · unfold owns; iexists _; isplitr; swap; · iexact H10
    ipureintro
    refine (View.read_writes_rep_unit _ _ _ _ (k0_off2_eq i)).trans ?_
    rw [View.readAt_rep_unit arg10.view s _ (k0_off2_eq i) (rows_inb i hb)]
    have e3 : View.readAt (Elt F) arg3.view (Rect.unit (s := S1x400x1) ![0, 0, 0] ![1, 400, 1] inb_S1x400x1_S1x400x1_0_0_0).toLoadRect (arg3.view.rep ids) = ids := View.readAt_rep_full arg3.view ids _
    have e12 : View.readAt (Elt F) arg12.view (Rect.unit (s := S1x512) ![0, 0] ![1, 512] inb_S1x512_S1x512_0_0).toLoadRect (arg12.view.rep mm) = mm := View.readAt_rep_full arg12.view mm _
    simp only [e3, e12]; try rfl
  isplitl [H12]; · iexact H12
  unfold owns; iexists _; isplitr; swap; · iexact H13
  ipureintro
  refine (View.read_writes_full _ _ _ _ _).trans ?_
  rw [View.readAt_rep_unit arg10.view s _ (k0_off2_eq i) (rows_inb i hb)]
  have e3 : View.readAt (Elt F) arg3.view (Rect.unit (s := S1x400x1) ![0, 0, 0] ![1, 400, 1] inb_S1x400x1_S1x400x1_0_0_0).toLoadRect (arg3.view.rep ids) = ids := View.readAt_rep_full arg3.view ids _
  have e12 : View.readAt (Elt F) arg12.view (Rect.unit (s := S1x512) ![0, 0] ![1, 512] inb_S1x512_S1x512_0_0).toLoadRect (arg12.view.rep mm) = mm := View.readAt_rep_full arg12.view mm _
  have e13 : View.readAt (Elt F) arg13.view (Rect.unit (s := S1x512) ![0, 0] ![1, 512] inb_S1x512_S1x512_0_0).toLoadRect (arg13.view.rep d) = d := View.readAt_rep_full arg13.view d _
  simp only [e3, e12, e13]; try rfl

/-- The last phase at one point: the output block is the quotient of the point's rows by the segments' sums. -/
theorem body_D (c : Dev nD) (i : grid0.Coords)
    (arg2 : Memref sig .tc .vmem S400x256 .f32) (harg2 : arg2.IsWhole) (arg3 : Memref sig .tc .vmem S1x400x1 .i32) (harg3 : arg3.IsWhole) (arg4 : Memref sig .tc .vmem S512x103 .f32) (harg4 : arg4.IsWhole) (arg5 : Memref sig .tc .vmem S359x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S400x1 .f32) (harg9 : arg9.IsWhole) (arg10 : Memref sig .tc .vmem S50000x1 .f32) (harg10 : arg10.IsWhole) (arg11 : Memref sig .tc .vmem S512x32 .f32) (harg11 : arg11.IsWhole) (arg12 : Memref sig .tc .vmem S1x512 .f32) (harg12 : arg12.IsWhole) (arg13 : Memref sig .tc .vmem S1x512 .f32) (harg13 : arg13.IsWhole)
    (h1 : ¬ cond1 i = 1#1) (h2 : ¬ k0_cond2 i = 1#1) (h3 : ¬ k0_cond3 i = 1#1) (h4 : k0_cond4 i = 1#1) (hb : 400 * (i 1).val + 400 ≤ 50000)
    (ids : Vec F S1x400x1 .i32) (o : Vec F S400x1 .f32) (s : Vec F S50000x1 .f32) (d : Vec F S1x512 .f32) (K : PUnit → sProp 𝕄) :
    iprop(owns (c : Thread nD τ) arg3 fullShare ids ∗ owns (c : Thread nD τ) arg9 fullShare o ∗ owns (c : Thread nD τ) arg10 fullShare s ∗ owns (c : Thread nD τ) arg13 fullShare d
        ∗ (iprop(owns (c : Thread nD τ) arg3 fullShare ids ∗ owns (c : Thread nD τ) arg9 fullShare (k0_pay8 ids (rows i hb s) d) ∗ owns (c : Thread nD τ) arg10 fullShare s ∗ owns (c : Thread nD τ) arg13 fullShare d) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  rw [own_rep c arg3 ids, own_rep c arg9 o, own_rep c arg10 s, own_rep c arg13 d]
  iintro ⟨H3, H9, H10, H13, Hk⟩
  sl_exec
  sl_step
  iapply Hk
  isplitl [H3]; · iexact H3
  isplitl [H9]
  · unfold owns; iexists _; isplitr; swap; · iexact H9
    ipureintro
    refine (View.read_writes_full _ _ _ _ _).trans ?_
    rw [View.readAt_rep_unit arg10.view s _ (k0_off3_eq i) (rows_inb i hb)]
    have e3 : View.readAt (Elt F) arg3.view (Rect.unit (s := S1x400x1) ![0, 0, 0] ![1, 400, 1] inb_S1x400x1_S1x400x1_0_0_0).toLoadRect (arg3.view.rep ids) = ids := View.readAt_rep_full arg3.view ids _
    have e13 : View.readAt (Elt F) arg13.view (Rect.unit (s := S1x512) ![0, 0] ![1, 512] inb_S1x512_S1x512_0_0).toLoadRect (arg13.view.rep d) = d := View.readAt_rep_full arg13.view d _
    simp only [e3, e13]; try rfl
  isplitl [H10]; · iexact H10
  iexact H13

end Cert.KernelIdeal.Hand
-- ==== Proof.KernelIdealInv.lean ====
/-
  Hand-written, untrusted. What the kernel carries from point to point. The grid has three phases of 125 points; the score
  scratch holds, block by block, scores after the first phase and exponentials after the second, and three more buffers hold
  the segments' part of the first layer, the segments' running maxima and the segments' running sums.
-/
module

public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ) (c : Dev nD)

/-- The grid point numbered `n`. -/
def pt (n : ℕ) : Fin cfg0.N := ⟨n % 375, lt_of_lt_of_eq (Nat.mod_lt _ (by decide)) N_0.symm⟩

/-- The point numbered by a point's number is the point. -/
theorem pt_val (t : Fin cfg0.N) : pt t.val = t :=
  Fin.ext (Nat.mod_eq_of_lt (lt_of_lt_of_eq t.isLt N_0))

/-- The nodes' rows at point `n`. -/
def xB (n : ℕ) : Vec F S400x256 .f32 := iblk m c 0 (pt n)
/-- The nodes' segment numbers at point `n`. -/
def idB (n : ℕ) : Vec F S1x400x1 .i32 := iblk m c 1 (pt n)
/-- The segments' rows at point `n`. -/
def gfB (n : ℕ) : Vec F S512x103 .f32 := iblk m c 2 (pt n)
/-- The first layer's weights at point `n`. -/
def w1B (n : ℕ) : Vec F S359x32 .f32 := iblk m c 3 (pt n)
/-- The first layer's bias at point `n`. -/
def b1B (n : ℕ) : Vec F S1x32 .f32 := iblk m c 4 (pt n)
/-- The second layer's weights at point `n`. -/
def w2B (n : ℕ) : Vec F S32x1 .f32 := iblk m c 5 (pt n)
/-- The second layer's bias at point `n`. -/
def b2B (n : ℕ) : Vec F S1x1 .f32 := iblk m c 6 (pt n)

/-- The segments' part of the first layer, computed at the first point. -/
def gS : Vec F S512x32 .f32 := k0_pay3 (gfB m c 0) (wBot (w1B m c 0)) (b1B m c 0)

/-- The scores of block `n`. -/
def sB (n : ℕ) : Vec F S400x1 .f32 :=
  k0_pay10 (k0_pay2 (idB m c n)) (xB m c n) (wTop (w1B m c n)) (gS m c) (w2B m c n) (b2B m c n)

/-- The segments' maxima over the first `n` blocks. -/
def mA : ℕ → Vec F S1x512 .f32
  | 0 => k0_pay12
  | n + 1 => k0_pay4 (k0_pay11 (k0_pay1 (idB m c n)) (k0_pay2 (idB m c n)) (xB m c n) (wTop (w1B m c n)) (gS m c) (w2B m c n) (b2B m c n))
      (first (grid0.coords (pt n))) k0_pay12 (mA n)

/-- The exponentials of block `n`. -/
def eB (n : ℕ) : Vec F S400x1 .f32 := k0_pay6 (idB m c (125 + n)) (sB m c n) (mA m c 125)

/-- The segments' sums of exponentials over the first `n` blocks. -/
def dA : ℕ → Vec F S1x512 .f32
  | 0 => k0_pay12
  | n + 1 => k0_pay7 (grid0.coords (pt (125 + n))) (idB m c (125 + n)) (sB m c n) (mA m c 125) (dA n)

/-- The quotients of block `n`. -/
def oB (n : ℕ) : Vec F S400x1 .f32 := k0_pay8 (idB m c (250 + n)) (eB m c n) (dA m c 125)

/-- Before any block the maxima are the starting value. -/
theorem mA_zero : mA m c 0 = k0_pay12 := rfl
/-- The maxima after one more block. -/
theorem mA_succ (n : ℕ) : mA m c (n + 1) =
    k0_pay4 (k0_pay11 (k0_pay1 (idB m c n)) (k0_pay2 (idB m c n)) (xB m c n) (wTop (w1B m c n)) (gS m c) (w2B m c n) (b2B m c n))
      (first (grid0.coords (pt n))) k0_pay12 (mA m c n) := rfl
/-- Before any block the sums are left at some value. -/
theorem dA_zero : dA m c 0 = k0_pay12 := rfl
/-- The sums after one more block. -/
theorem dA_succ (n : ℕ) : dA m c (n + 1) =
    k0_pay7 (grid0.coords (pt (125 + n))) (idB m c (125 + n)) (sB m c n) (mA m c 125) (dA m c n) := rfl

attribute [irreducible] mA dA

/-! ## The grid -/

/-- The second coordinate of a point is its number within its phase. -/
theorem coords_one : ∀ t : Fin cfg0.N, (grid0.coords t 1).val = t.val % 125 := by decide +kernel
/-- The first conditional is taken exactly at the first point. -/
theorem cond1_iff : ∀ t : Fin cfg0.N, cond1 (grid0.coords t) = 1#1 ↔ t.val = 0 := by decide +kernel
/-- The second conditional is taken exactly in the first phase. -/
theorem cond2_iff : ∀ t : Fin cfg0.N, k0_cond2 (grid0.coords t) = 1#1 ↔ t.val < 125 := by decide +kernel
/-- The third conditional is taken exactly in the second phase. -/
theorem cond3_iff : ∀ t : Fin cfg0.N, k0_cond3 (grid0.coords t) = 1#1 ↔ 125 ≤ t.val ∧ t.val < 250 := by decide +kernel
/-- The fourth conditional is taken exactly in the last phase. -/
theorem cond4_iff : ∀ t : Fin cfg0.N, k0_cond4 (grid0.coords t) = 1#1 ↔ 250 ≤ t.val := by decide +kernel
/-- The first points of the phases are the points that start a phase's count. -/
theorem first_iff : ∀ t : Fin cfg0.N, first (grid0.coords t) = 1#1 ↔ t.val % 125 = 0 := by decide +kernel

/-- A point's rows of the score scratch lie inside it. -/
theorem rows_le (t : Fin cfg0.N) : 400 * (grid0.coords t 1).val + 400 ≤ 50000 := by
  have := (grid0.coords t 1).isLt
  have h : (grid0.coords t 1).val < 125 := this
  omega

/-! ## The carried state -/

/-- Each of the 125 blocks of the score scratch lies inside it. -/
theorem blk_inb (j : ℕ) (h : j < 125) : ∀ a, (![400 * j, 0] : Fin 2 → ℕ) a + S400x1.size a ≤ S50000x1.size a := by
  intro a; fin_cases a
  · show 400 * j + 400 ≤ 50000; omega
  · exact Nat.le_refl 1

/-- Block `j` of the score scratch. -/
abbrev blkOf (s : Vec F S50000x1 .f32) (j : ℕ) (h : j < 125) : Vec F S400x1 .f32 :=
  VecWindow.window s ![400 * j, 0] S400x1.size (blk_inb j h)

/-- What the four carried buffers hold before point `n`. -/
structure Inv (n : ℕ) (s : Vec F S50000x1 .f32) (g : Vec F S512x32 .f32) (mm d : Vec F S1x512 .f32) : Prop where
  score : ∀ j (h : j < 125), j < n → n ≤ j + 125 → blkOf s j h = sB m c j
  expo : ∀ j (h : j < 125), j + 125 < n → blkOf s j h = eB m c j
  seg : 1 ≤ n → g = gS m c
  maxi : 1 ≤ n → mm = mA m c (min n 125)
  sums : 126 ≤ n → d = dA m c (min (n - 125) 125)

variable {m c}

/-- At the start nothing is asked of the carried state. -/
theorem Inv.zero (s : Vec F S50000x1 .f32) (g : Vec F S512x32 .f32) (mm d : Vec F S1x512 .f32) : Inv m c 0 s g mm d where
  score _ _ h := absurd h (Nat.not_lt_zero _)
  expo _ _ h := absurd h (Nat.not_lt_zero _)
  seg h := absurd h (by decide)
  maxi h := absurd h (by decide)
  sums h := absurd h (by decide)

/-- A point's rows of the score scratch are the block of its number within its phase. -/
theorem rows_eq (t : Fin cfg0.N) (s : Vec F S50000x1 .f32) :
    rows (grid0.coords t) (rows_le t) s = blkOf s (t.val % 125) (Nat.mod_lt _ (by decide)) := by
  have h : ∀ (k l : ℕ) (hk : ∀ a, (![400 * k, 0] : Fin 2 → ℕ) a + S400x1.size a ≤ S50000x1.size a) (hl : ∀ a, (![400 * l, 0] : Fin 2 → ℕ) a + S400x1.size a ≤ S50000x1.size a),
      k = l → VecWindow.window s ![400 * k, 0] S400x1.size hk = VecWindow.window s ![400 * l, 0] S400x1.size hl := by
    rintro k l hk hl rfl; rfl
  exact h _ _ _ _ (coords_one t)

/-- A block that was just written holds what was written. -/
theorem put_same (t : Fin cfg0.N) (s : Vec F S50000x1 .f32) (w : Vec F S400x1 .f32) (h : t.val % 125 < 125) :
    blkOf (putRows (grid0.coords t) s w) (t.val % 125) h = w := by
  have e := coords_one t
  unfold putRows
  rw [e]
  exact VecWindow.window_put_same _ _ _ _ _

/-- Writing one block leaves the others. -/
theorem put_other (t : Fin cfg0.N) (s : Vec F S50000x1 .f32) (w : Vec F S400x1 .f32) (j : ℕ) (h : j < 125) (hj : j ≠ t.val % 125) :
    blkOf (putRows (grid0.coords t) s w) j h = blkOf s j h := by
  have e := coords_one t
  unfold putRows
  rw [e]
  refine VecWindow.window_put_of_disjoint _ _ _ _ _ _ _ 0 ?_
  show 400 * j + 400 ≤ 400 * (t.val % 125) ∨ 400 * (t.val % 125) + 400 ≤ 400 * j
  omega

/-- At the first point of a phase the running maxima start afresh. -/
theorem pay4_first (w : BitVec 1) (h : w = 1#1) (a b b' : Vec F S1x512 .f32) (x : Vec F S1x512 .f32) :
    k0_pay4 a w x b = k0_pay4 a w x b' := by
  subst h; rfl

/-- At the first point of the second phase the sums do not depend on what the buffer held. -/
theorem pay7_first (i : grid0.Coords) (h : first i = 1#1) (ids : Vec F S1x400x1 .i32) (s : Vec F S400x1 .f32) (mm d d' : Vec F S1x512 .f32) :
    k0_pay7 i ids s mm d = k0_pay7 i ids s mm d' := by
  have e : ∀ a b b' : Vec F S1x512 .f32, Scalar.select (first i) a b = Scalar.select (first i) a b' := by rw [h]; intros; rfl
  unfold k0_pay7
  dsimp only
  first | rw [e _ d d'] | (congr 1; exact e _ _ _) | (congr 2; exact e _ _ _)

/-- The first point. -/
theorem Inv.stepA {t : Fin cfg0.N} (ht : t.val = 0) {s : Vec F S50000x1 .f32} {mm d : Vec F S1x512 .f32} :
    Inv m c (t.val + 1)
      (putRows (grid0.coords t) s (k0_pay10 (k0_pay2 (idB m c t.val)) (xB m c t.val) (wTop (w1B m c t.val)) (k0_pay3 (gfB m c t.val) (wBot (w1B m c t.val)) (b1B m c t.val)) (w2B m c t.val) (b2B m c t.val)))
      (k0_pay3 (gfB m c t.val) (wBot (w1B m c t.val)) (b1B m c t.val))
      (k0_pay4 (k0_pay11 (k0_pay1 (idB m c t.val)) (k0_pay2 (idB m c t.val)) (xB m c t.val) (wTop (w1B m c t.val)) (k0_pay3 (gfB m c t.val) (wBot (w1B m c t.val)) (b1B m c t.val)) (w2B m c t.val) (b2B m c t.val))
        (first (grid0.coords t)) k0_pay12 mm) d := by
  have hg : k0_pay3 (gfB m c t.val) (wBot (w1B m c t.val)) (b1B m c t.val) = gS m c := by rw [ht]; rfl
  rw [hg]
  refine ⟨fun j h hj _ => ?_, fun j h hj => absurd hj (by omega), fun _ => rfl, fun _ => ?_, fun h => absurd h (by omega)⟩
  · have e : j = t.val % 125 := by omega
    subst e
    rw [put_same]
    have e : t.val % 125 = t.val := by omega
    rw [e]; rfl
  · have e : min (t.val + 1) 125 = t.val + 1 := by omega
    rw [e, mA_succ, pt_val]
    exact pay4_first _ ((first_iff t).2 (by omega)) _ _ _ _

/-- A later point of the first phase. -/
theorem Inv.stepB {t : Fin cfg0.N} (h0 : 1 ≤ t.val) (h1 : t.val < 125) {s : Vec F S50000x1 .f32} {g : Vec F S512x32 .f32} {mm d : Vec F S1x512 .f32}
    (I : Inv m c t.val s g mm d) :
    Inv m c (t.val + 1)
      (putRows (grid0.coords t) s (k0_pay10 (k0_pay2 (idB m c t.val)) (xB m c t.val) (wTop (w1B m c t.val)) g (w2B m c t.val) (b2B m c t.val))) g
      (k0_pay4 (k0_pay11 (k0_pay1 (idB m c t.val)) (k0_pay2 (idB m c t.val)) (xB m c t.val) (wTop (w1B m c t.val)) g (w2B m c t.val) (b2B m c t.val))
        (first (grid0.coords t)) k0_pay12 mm) d := by
  obtain rfl := I.seg h0
  refine ⟨fun j h hj _ => ?_, fun j h hj => absurd hj (by omega), fun _ => rfl, fun _ => ?_, fun h => absurd h (by omega)⟩
  · by_cases e : j = t.val % 125
    · subst e
      rw [put_same]
      have e : t.val % 125 = t.val := by omega
      rw [e]; rfl
    · rw [put_other _ _ _ _ _ e]
      exact I.score j h (by omega) (by omega)
  · have e : min (t.val + 1) 125 = t.val + 1 := by omega
    have e' : min t.val 125 = t.val := by omega
    rw [e, mA_succ, pt_val, I.maxi h0, e']

/-- A point of the second phase. -/
theorem Inv.stepC {t : Fin cfg0.N} (h0 : 125 ≤ t.val) (h1 : t.val < 250) {s : Vec F S50000x1 .f32} {g : Vec F S512x32 .f32} {mm d : Vec F S1x512 .f32}
    (I : Inv m c t.val s g mm d) :
    Inv m c (t.val + 1)
      (putRows (grid0.coords t) s (k0_pay6 (idB m c t.val) (rows (grid0.coords t) (rows_le t) s) mm)) g mm
      (k0_pay7 (grid0.coords t) (idB m c t.val) (rows (grid0.coords t) (rows_le t) s) mm d) := by
  have hr : rows (grid0.coords t) (rows_le t) s = sB m c (t.val - 125) := by
    have e : t.val % 125 = t.val - 125 := by omega
    rw [rows_eq, I.score _ _ (by omega) (by omega), e]
  have hm : mm = mA m c 125 := by
    have e : min t.val 125 = 125 := by omega
    rw [I.maxi (by omega), e]
  have ht : t.val = 125 + (t.val - 125) := by omega
  rw [hr, hm]
  refine ⟨fun j h hj hj' => ?_, fun j h hj => ?_, fun _ => I.seg (by omega), fun _ => ?_, fun _ => ?_⟩
  · rw [put_other _ _ _ _ _ (by omega)]
    exact I.score j h (by omega) (by omega)
  · by_cases e : j = t.val % 125
    · subst e
      rw [put_same]
      have e : t.val % 125 = t.val - 125 := by omega
      rw [e, eB, ← ht]
    · rw [put_other _ _ _ _ _ e]
      exact I.expo j h (by omega)
  · have e : min (t.val + 1) 125 = 125 := by omega
    rw [e]
  · have e : min (t.val + 1 - 125) 125 = (t.val - 125) + 1 := by omega
    rw [e, dA_succ, ← ht, pt_val]
    by_cases h : t.val = 125
    · exact pay7_first _ ((first_iff t).2 (by omega)) _ _ _ _ _
    · have e' : min (t.val - 125) 125 = t.val - 125 := by omega
      rw [I.sums (by omega), e']

/-- A point of the last phase changes nothing that is carried. -/
theorem Inv.stepD {t : Fin cfg0.N} (h0 : 250 ≤ t.val) {s : Vec F S50000x1 .f32} {g : Vec F S512x32 .f32} {mm d : Vec F S1x512 .f32}
    (I : Inv m c t.val s g mm d) : Inv m c (t.val + 1) s g mm d := by
  have ht : t.val < 375 := lt_of_lt_of_eq t.isLt N_0
  refine ⟨fun j h hj hj' => absurd hj' (by omega), fun j h hj => I.expo j h (by omega), fun _ => I.seg (by omega), fun _ => ?_, fun _ => ?_⟩
  · have e : min (t.val + 1) 125 = min t.val 125 := by omega
    rw [e]; exact I.maxi (by omega)
  · have e : min (t.val + 1 - 125) 125 = min (t.val - 125) 125 := by omega
    rw [e]; exact I.sums (by omega)

/-- What a point of the last phase writes is its block of quotients. -/
theorem Inv.out {t : Fin cfg0.N} (h0 : 250 ≤ t.val) {s : Vec F S50000x1 .f32} {g : Vec F S512x32 .f32} {mm d : Vec F S1x512 .f32}
    (I : Inv m c t.val s g mm d) : k0_pay8 (idB m c t.val) (rows (grid0.coords t) (rows_le t) s) d = oB m c (t.val - 250) := by
  have ht : t.val < 375 := lt_of_lt_of_eq t.isLt N_0
  have e : t.val % 125 = t.val - 250 := by omega
  have e' : min (t.val - 125) 125 = 125 := by omega
  have e'' : t.val = 250 + (t.val - 250) := by omega
  rw [rows_eq, I.expo _ _ (by omega), I.sums (by omega), e, e', oB, ← e'']

end Cert.KernelIdeal.Hand
-- ==== Proof.KernelIdealRun.lean ====
/-
  Hand-written, untrusted. The kernel's whole run: it ends with every counter at zero and every argument as it was, and its
  result holds, row by row, the quotients that the points of the last phase compute.
-/
module

public import proofs.«01_k».proof.Proof.KernelIdealInv
public import proofs.«01_k».proof.Proof.Gen.KernelIdeal.Launch
public import proofs.«01_k».proof.Proof.Gen.KernelIdeal.Points
public import Idealize.ShloMosaic.Lib.Pipeline.Frame
public import Idealize.ShloMosaic.Lib.Pipeline.DatRel
public import Idealize.ShloMosaic.Lib.Pipeline.ArrRel
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pipeline Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- The score scratch, the segments' part of the first layer, the running maxima, the running sums. -/
abbrev sc0 : Memref sig .tc .vmem S50000x1 .f32 := Memref.whole cc0_scratch0
/-- The scratch of the segments' part of the first layer. -/
abbrev sc1 : Memref sig .tc .vmem S512x32 .f32 := Memref.whole cc0_scratch1
/-- The scratch of the running maxima. -/
abbrev sc2 : Memref sig .tc .vmem S1x512 .f32 := Memref.whole cc0_scratch2
/-- The scratch of the running sums. -/
abbrev sc3 : Memref sig .tc .vmem S1x512 .f32 := Memref.whole cc0_scratch3

/-- What the body carries: the four scratch buffers as `Inv` says, and the generator register at some state. -/
def Carried (c : Dev nD) (n : ℕ) : sProp 𝕄 :=
  iprop((∃ s g mm d, ⌜Inv m c n s g mm d⌝ ∗ owns (c : Thread nD τ) sc0 fullShare s ∗ owns (c : Thread nD τ) sc1 fullShare g
      ∗ owns (c : Thread nD τ) sc2 fullShare mm ∗ owns (c : Thread nD τ) sc3 fullShare d) ∗ ∃ r, prngReg c r)

/-- The data of the run: the arrays as the region finds them, the input windows' blocks left in place. -/
def dats (c : Dev nD) : Dat τ (Elt F) Unit ℕ (UR sig nD τ) ℕ cfg0 c where
  A w := V m c (Pipeline.arrRef spec0 w)
  after := fun
    | 0 => fun t => iblk m c 0 t | 1 => fun t => iblk m c 1 t | 2 => fun t => iblk m c 2 t | 3 => fun t => iblk m c 3 t
    | 4 => fun t => iblk m c 4 t | 5 => fun t => iblk m c 5 t | 6 => fun t => iblk m c 6 t | 7 => fun t => iblk m c 7 t
  Φ t := Carried m c t.val
  q _ := fullShare
  owed _ := 0

/-- Only the output window is held to a predicate. -/
def marked : Fin cfg0.W → Bool := fun w => decide (w = 7)

/-- A point of the last phase leaves its block of quotients in the output window. -/
def leaves (c : Dev nD) : (w : Fin cfg0.W) → Fin cfg0.N → ((cfg0.win w).block.Idx → Elt F (cfg0.win w).elt) → Prop
  | 0 => fun _ _ => True | 1 => fun _ _ => True | 2 => fun _ _ => True | 3 => fun _ _ => True
  | 4 => fun _ _ => True | 5 => fun _ _ => True | 6 => fun _ _ => True
  | 7 => fun t X => 250 ≤ t.val → X = oB m c (t.val - 250)

/-- One point: from what is carried before it and the input blocks to what is carried after it, the output block as `leaves` says. -/
theorem point (c : Dev nD) (t : Fin cfg0.N) (O : sProp 𝕄) :
    iprop(Carried m c t.val ∗ O ∗ owns (c : Thread nD τ) (st0_0 t) fullShare (xB m c t.val) ∗ owns (c : Thread nD τ) (st0_1 t) fullShare (idB m c t.val) ∗ owns (c : Thread nD τ) (st0_2 t) fullShare (gfB m c t.val) ∗ owns (c : Thread nD τ) (st0_3 t) fullShare (w1B m c t.val) ∗ owns (c : Thread nD τ) (st0_4 t) fullShare (b1B m c t.val) ∗ owns (c : Thread nD τ) (st0_5 t) fullShare (w2B m c t.val) ∗ owns (c : Thread nD τ) (st0_6 t) fullShare (b2B m c t.val) ∗ ∃ Y, owns (c : Thread nD τ) (st0_7 t) fullShare Y)
      ⊢ wp frame (wpE (defs₀ (F := F)) Variants.none c none) Set.univ (bodyAt0 t) fun _ =>
          iprop(Carried m c (t.val + 1) ∗ O ∗ owns (c : Thread nD τ) (st0_0 t) fullShare (xB m c t.val) ∗ owns (c : Thread nD τ) (st0_1 t) fullShare (idB m c t.val) ∗ owns (c : Thread nD τ) (st0_2 t) fullShare (gfB m c t.val) ∗ owns (c : Thread nD τ) (st0_3 t) fullShare (w1B m c t.val) ∗ owns (c : Thread nD τ) (st0_4 t) fullShare (b1B m c t.val) ∗ owns (c : Thread nD τ) (st0_5 t) fullShare (w2B m c t.val) ∗ owns (c : Thread nD τ) (st0_6 t) fullShare (b2B m c t.val) ∗ ∃ X, ⌜leaves m c 7 t X⌝ ∗ owns (c : Thread nD τ) (st0_7 t) fullShare X) := by
  have hN : t.val < 375 := lt_of_lt_of_eq t.isLt N_0
  have e1 := cond1_iff t
  have e2 := cond2_iff t
  have e3 := cond3_iff t
  have e4 := cond4_iff t
  unfold Carried
  iintro ⟨⟨⟨%s, %g, %mm, %d, %I, S0, S1, S2, S3⟩, Hr⟩, HO, H0, H1, H2, H3, H4, H5, H6, %Y, H7⟩
  by_cases h : t.val = 0
  · have h1 : cond1 (grid0.coords t) = 1#1 := by rw [e1]; omega
    have h2 : k0_cond2 (grid0.coords t) = 1#1 := by rw [e2]; omega
    have h3 : ¬ k0_cond3 (grid0.coords t) = 1#1 := by rw [e3]; omega
    have h4 : ¬ k0_cond4 (grid0.coords t) = 1#1 := by rw [e4]; omega
    iapply (body_A c (grid0.coords t) _ _ _ _ _ _ _ _ _ _ _ _ _ _ _ _ _ _ _ _ _ _ _ _ h1 h2 h3 h4 (rows_le t) (xB m c t.val) (idB m c t.val) (gfB m c t.val) (w1B m c t.val) (b1B m c t.val) (w2B m c t.val) (b2B m c t.val) s g mm)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    iintro ⟨H0, H1, H2, H3, H4, H5, H6, S0, S1, S2⟩
    isplitl [S0 S1 S2 S3 Hr]
    · isplitr [Hr]; swap; · iexact Hr
      iexists _, _, _, _
      isplitr; swap
      · isplitl [S0]; · iexact S0
        isplitl [S1]; · iexact S1
        isplitl [S2]; · iexact S2
        iexact S3
      ipureintro; exact Inv.stepA h
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    isplitr; swap; · iexact H7
    ipureintro; intro h'; omega
  by_cases ha : t.val < 125
  · have h1 : ¬ cond1 (grid0.coords t) = 1#1 := by rw [e1]; omega
    have h2 : k0_cond2 (grid0.coords t) = 1#1 := by rw [e2]; omega
    have h3 : ¬ k0_cond3 (grid0.coords t) = 1#1 := by rw [e3]; omega
    have h4 : ¬ k0_cond4 (grid0.coords t) = 1#1 := by rw [e4]; omega
    iapply (body_B c (grid0.coords t) _ _ _ _ _ _ _ _ _ _ _ _ _ _ _ _ _ _ _ _ _ _ _ _ h1 h2 h3 h4 (rows_le t) (xB m c t.val) (idB m c t.val) (w1B m c t.val) (w2B m c t.val) (b2B m c t.val) s g mm)
    isplitl [H0]; · iexact H0
    isplitl [H1]; · iexact H1
    isplitl [H3]; · iexact H3
    isplitl [H5]; · iexact H5
    isplitl [H6]; · iexact H6
    isplitl [S0]; · iexact S0
    isplitl [S1]; · iexact S1
    isplitl [S2]; · iexact S2
    iintro ⟨H0, H1, H3, H5, H6, S0, S1, S2⟩
    isplitl [S0 S1 S2 S3 Hr]
    · isplitr [Hr]; swap; · iexact Hr
      iexists _, _, _, _
      isplitr; swap
      · isplitl [S0]; · iexact S0
        isplitl [S1]; · iexact S1
        isplitl [S2]; · iexact S2
        iexact S3
      ipureintro; exact Inv.stepB (by omega) (by omega) I
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    isplitr; swap; · iexact H7
    ipureintro; intro h'; omega
  by_cases hb : t.val < 250
  · have h1 : ¬ cond1 (grid0.coords t) = 1#1 := by rw [e1]; omega
    have h2 : ¬ k0_cond2 (grid0.coords t) = 1#1 := by rw [e2]; omega
    have h3 : k0_cond3 (grid0.coords t) = 1#1 := by rw [e3]; omega
    have h4 : ¬ k0_cond4 (grid0.coords t) = 1#1 := by rw [e4]; omega
    iapply (body_C c (grid0.coords t) _ _ _ _ _ _ _ _ _ _ _ _ _ _ _ _ _ _ _ _ _ _ _ _ h1 h2 h3 h4 (rows_le t) (idB m c t.val) s mm d)
    isplitl [H1]; · iexact H1
    isplitl [S0]; · iexact S0
    isplitl [S2]; · iexact S2
    isplitl [S3]; · iexact S3
    iintro ⟨H1, S0, S2, S3⟩
    isplitl [S0 S1 S2 S3 Hr]
    · isplitr [Hr]; swap; · iexact Hr
      iexists _, _, _, _
      isplitr; swap
      · isplitl [S0]; · iexact S0
        isplitl [S1]; · iexact S1
        isplitl [S2]; · iexact S2
        iexact S3
      ipureintro; exact Inv.stepC (by omega) (by omega) I
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _
    isplitr; swap; · iexact H7
    ipureintro; intro h'; omega
  have h1 : ¬ cond1 (grid0.coords t) = 1#1 := by rw [e1]; omega
  have h2 : ¬ k0_cond2 (grid0.coords t) = 1#1 := by rw [e2]; omega
  have h3 : ¬ k0_cond3 (grid0.coords t) = 1#1 := by rw [e3]; omega
  have h4 : k0_cond4 (grid0.coords t) = 1#1 := by rw [e4]; omega
  iapply (body_D c (grid0.coords t) _ _ _ _ _ _ _ _ _ _ _ _ _ _ _ _ _ _ _ _ _ _ _ _ h1 h2 h3 h4 (rows_le t) (idB m c t.val) Y s d)
  isplitl [H1]; · iexact H1
  isplitl [H7]; · iexact H7
  isplitl [S0]; · iexact S0
  isplitl [S3]; · iexact S3
  iintro ⟨H1, H7, S0, S3⟩
  isplitl [S0 S1 S2 S3 Hr]
  · isplitr [Hr]; swap; · iexact Hr
    iexists _, _, _, _
    isplitr; swap
    · isplitl [S0]; · iexact S0
      isplitl [S1]; · iexact S1
      isplitl [S2]; · iexact S2
      iexact S3
    ipureintro; exact Inv.stepD (by omega) I
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitr; swap; · iexact H7
  ipureintro; intro h'; exact Inv.out h' I

/-! Each input window's block is found and left in place. -/

/-- A point finds its block of the nodes' rows. -/
theorem before_0 (c : Dev nD) (t : Fin cfg0.N) (d) : (dats m c).before 0 t d = xB m c t.val := by
  rw [xB, pt_val]; exact before0_0_of m (dats m c) rfl (fun _ => rfl) t d
/-- A point finds its block of the nodes' segment numbers. -/
theorem before_1 (c : Dev nD) (t : Fin cfg0.N) (d) : (dats m c).before 1 t d = idB m c t.val := by
  rw [idB, pt_val]; exact before0_1_of m (dats m c) rfl (fun _ => rfl) t d
/-- A point finds its block of the segments' rows. -/
theorem before_2 (c : Dev nD) (t : Fin cfg0.N) (d) : (dats m c).before 2 t d = gfB m c t.val := by
  rw [gfB, pt_val]; exact before0_2_of m (dats m c) rfl (fun _ => rfl) t d
/-- A point finds its block of the first layer's weights. -/
theorem before_3 (c : Dev nD) (t : Fin cfg0.N) (d) : (dats m c).before 3 t d = w1B m c t.val := by
  rw [w1B, pt_val]; exact before0_3_of m (dats m c) rfl (fun _ => rfl) t d
/-- A point finds its block of the first layer's bias. -/
theorem before_4 (c : Dev nD) (t : Fin cfg0.N) (d) : (dats m c).before 4 t d = b1B m c t.val := by
  rw [b1B, pt_val]; exact before0_4_of m (dats m c) rfl (fun _ => rfl) t d
/-- A point finds its block of the second layer's weights. -/
theorem before_5 (c : Dev nD) (t : Fin cfg0.N) (d) : (dats m c).before 5 t d = w2B m c t.val := by
  rw [w2B, pt_val]; exact before0_5_of m (dats m c) rfl (fun _ => rfl) t d
/-- A point finds its block of the second layer's bias. -/
theorem before_6 (c : Dev nD) (t : Fin cfg0.N) (d) : (dats m c).before 6 t d = b2B m c t.val := by
  rw [b2B, pt_val]; exact before0_6_of m (dats m c) rfl (fun _ => rfl) t d
/-- A point leaves its block of the nodes' rows as it was. -/
theorem after_0 (c : Dev nD) (t : Fin cfg0.N) : (dats m c).after 0 t = xB m c t.val := by
  rw [xB, pt_val]; rfl
/-- A point leaves its block of the nodes' segment numbers as it was. -/
theorem after_1 (c : Dev nD) (t : Fin cfg0.N) : (dats m c).after 1 t = idB m c t.val := by
  rw [idB, pt_val]; rfl
/-- A point leaves its block of the segments' rows as it was. -/
theorem after_2 (c : Dev nD) (t : Fin cfg0.N) : (dats m c).after 2 t = gfB m c t.val := by
  rw [gfB, pt_val]; rfl
/-- A point leaves its block of the first layer's weights as it was. -/
theorem after_3 (c : Dev nD) (t : Fin cfg0.N) : (dats m c).after 3 t = w1B m c t.val := by
  rw [w1B, pt_val]; rfl
/-- A point leaves its block of the first layer's bias as it was. -/
theorem after_4 (c : Dev nD) (t : Fin cfg0.N) : (dats m c).after 4 t = b1B m c t.val := by
  rw [b1B, pt_val]; rfl
/-- A point leaves its block of the second layer's weights as it was. -/
theorem after_5 (c : Dev nD) (t : Fin cfg0.N) : (dats m c).after 5 t = w2B m c t.val := by
  rw [w2B, pt_val]; rfl
/-- A point leaves its block of the second layer's bias as it was. -/
theorem after_6 (c : Dev nD) (t : Fin cfg0.N) : (dats m c).after 6 t = b2B m c t.val := by
  rw [b2B, pt_val]; rfl

/-- Before a point the carried state is the one numbered by the point. -/
theorem carried_before (c : Dev nD) (t : Fin cfg0.N) : (dats m c).Φ t.castSucc = Carried m c t.val :=
  Pipeline.Dat.Φ_castSucc (fun n _ => Carried m c n) t
/-- After a point it is the next one. -/
theorem carried_after (c : Dev nD) (t : Fin cfg0.N) : (dats m c).Φ t.succ = Carried m c (t.val + 1) := rfl

/-- The body obligation of the run. -/
theorem body_obligation (c : Dev nD) :
    BodyObligationRel (dats m c) (defs₀ (F := F)) Variants.none () Set.univ marked (leaves m c) := fun t => by
  rw [bigSep_W0, bigSep_W0, carried_before, carried_after]
  show iprop(Carried m c t.val ∗ (dats m c).owesAt () t.castSucc ∗ (∃ d, owns (c : Thread nD τ) (st0_0 t) fullShare ((dats m c).before 0 t d)) ∗ (∃ d, owns (c : Thread nD τ) (st0_1 t) fullShare ((dats m c).before 1 t d)) ∗ (∃ d, owns (c : Thread nD τ) (st0_2 t) fullShare ((dats m c).before 2 t d)) ∗ (∃ d, owns (c : Thread nD τ) (st0_3 t) fullShare ((dats m c).before 3 t d)) ∗ (∃ d, owns (c : Thread nD τ) (st0_4 t) fullShare ((dats m c).before 4 t d)) ∗ (∃ d, owns (c : Thread nD τ) (st0_5 t) fullShare ((dats m c).before 5 t d)) ∗ (∃ d, owns (c : Thread nD τ) (st0_6 t) fullShare ((dats m c).before 6 t d)) ∗ ∃ Y, ⌜((dats m c).toRRel marked (leaves m c)).Finds 7 t Y⌝ ∗ owns (c : Thread nD τ) (st0_7 t) fullShare Y)
    ⊢ wp frame (wpE (defs₀ (F := F)) Variants.none c none) Set.univ (bodyAt0 t) fun _ =>
        iprop(Carried m c (t.val + 1) ∗ (dats m c).owesAt () t.castSucc ∗ owns (c : Thread nD τ) (st0_0 t) fullShare ((dats m c).after 0 t) ∗ owns (c : Thread nD τ) (st0_1 t) fullShare ((dats m c).after 1 t) ∗ owns (c : Thread nD τ) (st0_2 t) fullShare ((dats m c).after 2 t) ∗ owns (c : Thread nD τ) (st0_3 t) fullShare ((dats m c).after 3 t) ∗ owns (c : Thread nD τ) (st0_4 t) fullShare ((dats m c).after 4 t) ∗ owns (c : Thread nD τ) (st0_5 t) fullShare ((dats m c).after 5 t) ∗ owns (c : Thread nD τ) (st0_6 t) fullShare ((dats m c).after 6 t) ∗ ∃ X, ⌜leaves m c 7 t X⌝ ∗ owns (c : Thread nD τ) (st0_7 t) fullShare X)
  rw [after_0, after_1, after_2, after_3, after_4, after_5, after_6]
  refine BIBase.Entails.trans ?_ (point m c t _)
  iintro ⟨HC, HO, ⟨%d0, H0⟩, ⟨%d1, H1⟩, ⟨%d2, H2⟩, ⟨%d3, H3⟩, ⟨%d4, H4⟩, ⟨%d5, H5⟩, ⟨%d6, H6⟩, ⟨%Y, -, H7⟩⟩
  rw [before_0 m c t d0, before_1 m c t d1, before_2 m c t d2, before_3 m c t d3, before_4 m c t d4, before_5 m c t d5, before_6 m c t d6]
  isplitl [HC]; · iexact HC
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Y; iexact H7

/-- Before the first point the scratch holds anything. -/
theorem carried_in (c : Dev nD) : ΦA spec0 c ⊢ (dats m c).Φ 0 := by
  show ΦA spec0 c ⊢ Carried m c 0
  unfold ΦA Carried
  rw [scopedRest0_eq]
  iintro ⟨⟨⟨%s, S0⟩, ⟨%g, S1⟩, ⟨%mm, S2⟩, ⟨%d, S3⟩⟩, Hr⟩
  isplitr [Hr]; swap; · iexact Hr
  iexists s, g, mm, d
  isplitr; · ipureintro; exact Inv.zero s g mm d
  rw [owns_whole, owns_whole, owns_whole, owns_whole]
  isplitl [S0]; · iexact S0
  isplitl [S1]; · iexact S1
  isplitl [S2]; · iexact S2
  iexact S3

/-- After the last point what the scratch holds is forgotten. -/
theorem carried_out (c : Dev nD) : (dats m c).Φ (Fin.last cfg0.N) ⊢ ΦA spec0 c := by
  show Carried m c cfg0.N ⊢ ΦA spec0 c
  unfold ΦA Carried
  rw [scopedRest0_eq]
  simp only [owns_whole]
  iintro ⟨⟨%s, %g, %mm, %d, -, S0, S1, S2, S3⟩, Hr⟩
  isplitr [Hr]; swap; · iexact Hr
  isplitl [S0]; · iexists s; iexact S0
  isplitl [S1]; · iexists g; iexact S1
  isplitl [S2]; · iexists mm; iexact S2
  iexists d; iexact S3

/-! ## The result array -/

/-- The result of the kernel: row `r` is row `r % 400` of the quotients of block `r / 400`. -/
def result (c : Dev nD) : Vec F S50000x1 .f32 := fun y =>
  oB m c ((y 0).val / 400) (ix2 ⟨(y 0).val % 400, Nat.mod_lt _ (by decide)⟩ (y 1))

/-- Of an output window whose later points' write-backs are blocks of `G` from point `k` on, an index that one of these covers ends at `G`. -/
theorem arrAt_from {cfg : Cfg sig Λ₀} {c : Dev nD} (dat : Dat τ (Elt F) Unit ℕ (UR sig nD τ) ℕ cfg c) (w : Fin cfg.W)
    (G : Buf (Elt F) ((cfg.win w).arr.view.loc (c.tc : Thread nD τ))) (k : ℕ)
    (hG : ∀ t, k ≤ t.val → (cfg.win w).flush t = true → dat.flushed w t = ((cfg.win w).blk t).view.read (Elt F) G)
    (i : ((cfg.win w).arr.view.loc (c.tc : Thread nD τ)).2.ty.Idx) (t : Fin cfg.N) (hk : k ≤ t.val)
    (hf : (cfg.win w).flush t = true) (hi : i ∈ ((cfg.win w).blk t).view.set) (n : ℕ) (hn : t.val < n) : dat.arrAt w n i = G i := by
  induction n, hn using Nat.le_induction with
  | base =>
    rw [dat.arrAt_succ_apply, dif_pos t.isLt, if_pos hf, hG t hk hf, View.write_read_eq_piecewise, View.setOn_univ]
    exact Finset.piecewise_eq_of_mem _ _ _ hi
  | succ n hn ih =>
    rw [dat.arrAt_succ_apply]
    split_ifs with hN hfn
    · rw [hG _ (by show k ≤ n; exact hk.trans (Nat.le_of_succ_le hn)) hfn, View.write_read_eq_piecewise, View.setOn_univ]
      by_cases hin : i ∈ ((cfg.win w).blk ⟨n, hN⟩).view.set
      · exact Finset.piecewise_eq_of_mem _ _ _ hin
      · exact (Finset.piecewise_eq_of_notMem _ _ _ hin).trans ih
    · exact ih
    · exact ih

/-- The output's block at a point starts at the point's rows. -/
theorem out_index_0 : ∀ t : Fin cfg0.N, (cfg0.win 7).index t 0 = t.val % 125 := by decide +kernel
/-- The output's block index is zero on the second axis. -/
theorem out_index_1 : ∀ t : Fin cfg0.N, (cfg0.win 7).index t 1 = 0 := by decide +kernel

/-- Where a row of the output's block lies in the array. -/
theorem out_emb_0 (t : Fin cfg0.N) (y : ((cfg0.win 7).xblock (cfg0.grid.coords t)).Idx) :
    ((((cfg0.win 7).rect t).emb y 0 : Fin _) : ℕ) = 400 * (t.val % 125) + (y 0).val := by
  rw [Pipeline.Window.rect_emb_val (cfg0.win 7) t y 0 rfl, out_index_0]
  show t.val % 125 * 400 + _ = _
  omega
/-- Where a column of the output's block lies in the array. -/
theorem out_emb_1 (t : Fin cfg0.N) (y : ((cfg0.win 7).xblock (cfg0.grid.coords t)).Idx) :
    ((((cfg0.win 7).rect t).emb y 1 : Fin _) : ℕ) = (y 1).val := by
  rw [Pipeline.Window.rect_emb_val (cfg0.win 7) t y 1 rfl, out_index_1]
  show 0 * 1 + _ = _
  omega

/-- A block of quotients is the result read through the output's block at the point. -/
theorem result_block (c : Dev nD) (t : Fin cfg0.N) (h : 250 ≤ t.val) (y : S400x1.Idx) (z : S50000x1.Idx)
    (h0 : (z 0).val = 400 * (t.val % 125) + (y 0).val) (h1 : (z 1).val = (y 1).val) : oB m c (t.val - 250) y = result m c z := by
  have hN : t.val < 375 := lt_of_lt_of_eq t.isLt N_0
  have hy : (y 0).val < 400 := (y 0).isLt
  unfold result
  have e : (z 0).val / 400 = t.val - 250 := by omega
  have e' : ix2 ⟨(z 0).val % 400, Nat.mod_lt _ (by decide)⟩ (z 1) = y := by
    rw [eq_ix2 y]
    congr 1
    · exact Fin.ext (by show (z 0).val % 400 = (y 0).val; omega)
    · exact Fin.ext h1
  rw [e]; exact congrArg (oB m c (t.val - 250)) e'.symm

/-- THE RUN: it terminates, every argument is as it was, every counter is zero, and the result array holds `result`. -/
theorem run (ρ : Dev nD → PrngReg) :
    θ_run defs (onTc (τ := τ) (main (F := F))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine Pipeline.RDat.θ_run_frame_track cfgs 0 launch0 defs₀ Variants.none (fun c => (dats m c).toRRel marked (leaves m c)) m ρ main
    (fun c => (body_obligation m c).toRRel) (fun c w => (dats m c).share_full (fun _ => rfl) w) (fun c t => rfl) (V m) (hmain m Variants.none) (fun c w => rfl)
    (fun c => carried_in m c) (fun c => carried_out m c) _ ?_
  rintro r ⟨h, hs⟩
  refine ⟨fun c => ⟨?_, (h.arr_in c 0 rfl).trans (V_main_arg0 m c),
    ((h c).2 main_arg1 (Pipeline.mem_restRefs_of main_arg1 (by decide) (by decide))).trans (V_main_arg1 m c),
    (h.arr_in c 2 rfl).trans (V_main_arg2 m c), (h.arr_in c 3 rfl).trans (V_main_arg3 m c),
    ((h c).2 main_arg4 (Pipeline.mem_restRefs_of main_arg4 (by decide) (by decide))).trans (V_main_arg4 m c),
    (h.arr_in c 5 rfl).trans (V_main_arg5 m c),
    ((h c).2 main_arg6 (Pipeline.mem_restRefs_of main_arg6 (by decide) (by decide))).trans (V_main_arg6 m c)⟩, hs⟩
  obtain ⟨after, hL, hG⟩ := h.exists_exact c
  refine (hG 7).trans (funext fun i => ?_)
  have hi : (i 0).val < 50000 := (i 0).isLt
  have hN : 250 + (i 0).val / 400 < cfg0.N := by rw [show cfg0.N = 375 from N_0]; omega
  refine arrAt_from _ 7 (result m c) 250 (fun t hk hf => ?_) i ⟨250 + (i 0).val / 400, hN⟩ (by show 250 ≤ 250 + _; omega) (flush0_7 _) ?_ _ hN
  · have hX : after 7 t = oB m c (t.val - 250) := Pipeline.Dat.toRRel_leaves (dats m c) (fgt := marked) (Rl := leaves m c) (w := 7) rfl (hL 7 t hf) hk
    funext y
    show after 7 t ((cfg0.win 7).xinj (cfg0.grid.coords t) y) = result m c (((cfg0.win 7).rect t).emb y)
    rw [hX]
    exact result_block m c t hk _ _ (out_emb_0 t y) (out_emb_1 t y)
  · refine ((cfg0.win 7).emb_mem_blk_iff ⟨250 + (i 0).val / 400, hN⟩ i rfl).2 fun a => ?_
    fin_cases a
    · show (cfg0.win 7).index _ 0 * 400 ≤ (i 0).val ∧ (i 0).val < (cfg0.win 7).index _ 0 * 400 + 400
      rw [out_index_0]
      have e : (250 + (i 0).val / 400) % 125 = (i 0).val / 400 := by omega
      rw [e]; omega
    · have h1 : (i 1).val < 1 := (i 1).isLt
      show (cfg0.win 7).index _ 1 * 1 ≤ (i 1).val ∧ (i 1).val < (cfg0.win 7).index _ 1 * 1 + 1
      rw [out_index_1]; omega

end Cert.KernelIdeal.Hand
-- ==== Proof.Blocks.lean ====
/-
  Hand-written, untrusted. What the blocks that the pipeline brings in hold: rows `400 b` to `400 b + 399` of the nodes' arrays, the whole
  of the others.
-/
module

public import proofs.«01_k».proof.Proof.KernelIdealInv
public import Idealize.ShloMosaic.Lib.Pointwise
public import Idealize.ShloMosaic.Lib.Pipeline.ValueKit

@[expose] public section

set_option maxRecDepth 16384

noncomputable section

namespace Cert.KernelIdeal.AtIdeal

open Cert.KernelIdeal Cert.KernelIdeal.Gen Cert.KernelIdeal.Hand
open Idealize.ShloMosaic Idealize.ShloMosaic.TcCoe Idealize.ShloMosaic.Pipeline

variable {F : FTy → Type} [FloatOps F] [Named F]

variable (m : (ℓ : Loc nD τ sig) → Buf (Elt F) ℓ) (c : Dev nD)

/-- In the first phase a point has its own block of the nodes' rows. -/
theorem index_0 : ∀ t : Fin cfg0.N, t.val < 125 → (cfg0.win 0).index t 0 = t.val ∧ (cfg0.win 0).index t 1 = 0 := by decide +kernel
/-- The segment numbers' block of a point is that of its number within its phase. -/
theorem index_1 : ∀ t : Fin cfg0.N, (cfg0.win 1).index t 0 = t.val % 125 ∧ (cfg0.win 1).index t 1 = 0 ∧ (cfg0.win 1).index t 2 = 0 := by decide +kernel
/-- The block of the segments' rows is the whole array at every point. -/
theorem index_2 : ∀ t : Fin cfg0.N, (cfg0.win 2).index t 0 = 0 ∧ (cfg0.win 2).index t 1 = 0 := by decide +kernel
/-- The block of the first layer's weights is the whole array at every point. -/
theorem index_3 : ∀ t : Fin cfg0.N, (cfg0.win 3).index t 0 = 0 ∧ (cfg0.win 3).index t 1 = 0 := by decide +kernel
/-- The block of the first layer's bias is the whole array at every point. -/
theorem index_4 : ∀ t : Fin cfg0.N, (cfg0.win 4).index t 0 = 0 ∧ (cfg0.win 4).index t 1 = 0 := by decide +kernel
/-- The block of the second layer's weights is the whole array at every point. -/
theorem index_5 : ∀ t : Fin cfg0.N, (cfg0.win 5).index t 0 = 0 ∧ (cfg0.win 5).index t 1 = 0 := by decide +kernel
/-- The block of the second layer's bias is the whole array at every point. -/
theorem index_6 : ∀ t : Fin cfg0.N, (cfg0.win 6).index t 0 = 0 ∧ (cfg0.win 6).index t 1 = 0 := by decide +kernel

/-- The number of a point. -/
theorem pt_of_lt {n : ℕ} (h : n < 375) : (pt n).val = n := Nat.mod_eq_of_lt h

/-- The nodes' rows of the first phase's points. -/
theorem xB_at (n : ℕ) (h : n < 125) (r : Fin 400) (f : Fin 256) :
    xB m c n (ix2 r f) = (m ((c : Thread nD τ).loc main_arg0) : FVec F S50000x256 .f32) (ix2 ⟨400 * n + r.val, by omega⟩ f) := by
  have ht := pt_of_lt (n := n) (by omega)
  have e := index_0 (pt n) (by omega)
  unfold xB
  blk_point [iblk, V, e.1, e.2, ht]

/-- The segment numbers. -/
theorem idB_at (n : ℕ) (h : n < 375) (r : Fin 400) :
    (idB m c n : IVec S1x400x1 32) (ix3 0 r 0) = (m ((c : Thread nD τ).loc main_arg1) : IVec S50000 32) (ix1 ⟨400 * (n % 125) + r.val, by omega⟩) := by
  have ht := pt_of_lt h
  have e := index_1 (pt n)
  unfold idB
  blk_point [iblk, V, e.1, e.2.1, e.2.2, ht]

/-- The segments' rows. -/
theorem gfB_at (n : ℕ) (j : Fin 512) (f : Fin 103) :
    gfB m c n (ix2 j f) = (m ((c : Thread nD τ).loc main_arg2) : FVec F S512x103 .f32) (ix2 j f) := by
  have e := index_2 (pt n)
  unfold gfB
  blk_point [iblk, V, e.1, e.2]

/-- The rows of the first layer's weights that meet the nodes' features. -/
theorem wTop_at (n : ℕ) (f : Fin 256) (k : Fin 32) :
    wTop (w1B m c n) (ix2 f k) = (m ((c : Thread nD τ).loc main_arg3) : FVec F S359x32 .f32) (ix2 ⟨f.val, by omega⟩ k) := by
  have e := index_3 (pt n)
  unfold w1B wTop
  blk_point [iblk, V, e.1, e.2, VecWindow.window]

/-- The rows of the first layer's weights that meet the segments' features. -/
theorem wBot_at (n : ℕ) (f : Fin 103) (k : Fin 32) :
    wBot (w1B m c n) (ix2 f k) = (m ((c : Thread nD τ).loc main_arg3) : FVec F S359x32 .f32) (ix2 ⟨256 + f.val, by omega⟩ k) := by
  have e := index_3 (pt n)
  unfold w1B wBot
  blk_point [iblk, V, e.1, e.2, VecWindow.window]

/-- The first layer's bias. -/
theorem b1B_at (n : ℕ) (k : Fin 32) :
    b1B m c n (ix2 0 k) = (m ((c : Thread nD τ).loc main_arg4) : FVec F S32 .f32) (ix1 k) := by
  have e := index_4 (pt n)
  unfold b1B
  blk_point [iblk, V, e.1, e.2]

/-- The second layer's weights. -/
theorem w2B_at (n : ℕ) (k : Fin 32) :
    w2B m c n (ix2 k 0) = (m ((c : Thread nD τ).loc main_arg5) : FVec F S32x1 .f32) (ix2 k 0) := by
  have e := index_5 (pt n)
  unfold w2B
  blk_point [iblk, V, e.1, e.2]

/-- The second layer's bias. -/
theorem b2B_at (n : ℕ) : b2B m c n (ix2 0 0) = (m ((c : Thread nD τ).loc main_arg6) : FVec F S1 .f32) (ix1 0) := by
  have e := index_6 (pt n)
  unfold b2B
  blk_point [iblk, V, e.1, e.2]

end Cert.KernelIdeal.AtIdeal
-- ==== Proof.Spec.lean ====
/-
  Hand-written, untrusted. What both programs compute, over extended real numbers: a node's score from its own row and its segment's
  row, and the softmax of the scores within each segment.
-/
module

public import Idealize.ShloMosaic.PureOps.Ideal
public import Idealize.ShloMosaic.PureOps.Ideal.Laws
public import Idealize.ShloMosaic.Lib.Pointwise
public import Idealize.ShloMosaic.Lib.Routing.Shapes
public import Idealize.ShloMosaic.Lib.WordCmp

@[expose] public section

set_option maxRecDepth 16384

noncomputable section

namespace Cert.Spec

open Idealize.ShloMosaic Idealize.ShloMosaic.Routing

/-! ## The score of a node -/

/-- The activation: `log (1 + exp z)`, written so that the exponential stays small. -/
def softplus (z : EReal) : EReal := max z 0 + Ideal.log1p (Ideal.exp (-(max z (-z))))

/-- Hidden unit `k` of node `n` in segment `j`: the node's row against the first 256 rows of the weights, the segment's row against the
    other 103, and the bias. -/
def hidden (X : (shape2 50000 256).Idx → EReal) (G : (shape2 512 103).Idx → EReal) (W₁ : (shape2 359 32).Idx → EReal)
    (B₁ : (shape1 32).Idx → EReal) (n : Fin 50000) (j : Fin 512) (k : Fin 32) : EReal :=
  (∑ f : Fin 256, X (ix2 n f) * W₁ (ix2 (⟨f.val, by have := f.isLt; omega⟩ : Fin 359) k))
    + ((∑ f : Fin 103, G (ix2 j f) * W₁ (ix2 (⟨256 + f.val, by have := f.isLt; omega⟩ : Fin 359) k)) + B₁ (ix1 k))

/-- The score of node `n` in segment `j`. -/
def score (X : (shape2 50000 256).Idx → EReal) (G : (shape2 512 103).Idx → EReal) (W₁ : (shape2 359 32).Idx → EReal)
    (B₁ : (shape1 32).Idx → EReal) (W₂ : (shape2 32 1).Idx → EReal) (B₂ : (shape1 1).Idx → EReal) (n : Fin 50000) (j : Fin 512) : EReal :=
  (∑ k : Fin 32, softplus (hidden X G W₁ B₁ n j k) * W₂ (ix2 k 0)) + B₂ (ix1 0)

/-! ## Bits and words -/

/-- `-∞` from its bits. -/
theorem neg_inf : Ideal.ofBits .f32 0xFF800000#32 = ⊥ := by
  simp [Ideal.ofBits, Ideal.ieee]

/-- `+∞` from its bits. -/
theorem pos_inf : Ideal.ofBits .f32 0x7F800000#32 = ⊤ := by
  simp [Ideal.ofBits, Ideal.ieee]

/-- What both programs add to a denominator. -/
def eps : EReal := Ideal.ofBits .f32 0x24E69595#32

/-- The small constant is positive. -/
theorem eps_pos : 0 < eps := by
  unfold eps
  simp [Ideal.ofBits, Ideal.ieee]
  exact EReal.mul_pos (EReal.coe_pos.2 (by norm_num)) (EReal.coe_pos.2 (by positivity))

/-- Two segment numbers' words are equal exactly when the numbers are. -/
theorem eq_word (i j : Fin 512) : IntOp.cmpi .eq (BitVec.ofNat 32 i.val) (BitVec.ofNat 32 j.val) = if i = j then 1#1 else 0#1 := by
  have hi := i.isLt
  have hj := j.isLt
  rw [WordCmp.cmpi_eq_ofNat (by omega) (by omega)]
  by_cases h : i = j
  · rw [if_pos h, decide_eq_true (congrArg Fin.val h)]
    rfl
  · rw [if_neg h, decide_eq_false fun e => h (Fin.ext e)]
    rfl

/-! ## The softmax within a segment -/

variable (s : Fin 50000 → EReal) (b : Fin 50000 → Fin 512)

/-- The greatest score in segment `j`, `-∞` when it has none. -/
def segMax (j : Fin 512) : EReal := Finset.univ.sup fun n => if b n = j then s n else ⊥

/-- The sum over segment `j` of values `e` at its nodes. -/
def segSum (e : Fin 50000 → EReal) (j : Fin 512) : EReal := ∑ n, if b n = j then e n else 0

/-- The softmax within segments after `t j` has been taken off segment `j`'s scores, `ε` added to the denominators. -/
def softmax (ε : EReal) (t : Fin 512 → EReal) (n : Fin 50000) : EReal :=
  Ideal.div (Ideal.exp (s n - t (b n))) (segSum b (fun i => Ideal.exp (s i - t (b i))) (b n) + ε)

/-- What bounds a segment's maximum bounds its nodes' scores, and conversely. -/
theorem segMax_le (j : Fin 512) (z : EReal) : segMax s b j ≤ z ↔ ∀ n, b n = j → s n ≤ z := by
  unfold segMax
  rw [Finset.sup_le_iff]
  constructor
  · intro h n hn
    have := h n (Finset.mem_univ n)
    rwa [if_pos hn] at this
  · intro h n _
    split
    · next hn => exact h n hn
    · exact bot_le

/-- The maximum is one of the segment's scores, unless it is `-∞`. -/
theorem segMax_mem (j : Fin 512) (h : segMax s b j ≠ ⊥) : ∃ n, b n = j ∧ s n = segMax s b j := by
  obtain ⟨n, _, hn⟩ := Finset.exists_mem_eq_sup (Finset.univ : Finset (Fin 50000)) ⟨0, Finset.mem_univ _⟩
    (fun n => if b n = j then s n else ⊥)
  change segMax s b j = _ at hn
  by_cases hb : b n = j
  · rw [if_pos hb] at hn
    exact ⟨n, hb, hn.symm⟩
  · rw [if_neg hb] at hn
    exact absurd hn h

/-- What the kernel takes off a segment's scores: the maximum, or zero when it is `-∞`. -/
def offK (m : EReal) : EReal := if ⊥ < m then m else 0

/-- What the reference takes off a segment's scores: the maximum, or zero when it is infinite. -/
def offR (m : EReal) : EReal := if max m (-m) < ⊤ then m else 0

/-- The two offsets agree unless the maximum is plus infinity. -/
theorem offK_eq_offR (m : EReal) (h : m ≠ ⊤) : offK m = offR m := by
  unfold offK offR
  induction m with
  | bot => simp
  | coe x =>
    rw [if_pos (EReal.bot_lt_coe x), if_pos]
    rw [← EReal.coe_neg]
    exact max_lt (EReal.coe_lt_top _) (EReal.coe_lt_top _)
  | top => exact absurd rfl h

/-- Dividing by a denominator that is `⊤` gives zero. -/
theorem div_top (x : EReal) : Ideal.div x ⊤ = 0 := by
  unfold Ideal.div
  rw [if_neg (by simp)]
  simp

/-- The exponential is not negative. -/
theorem exp_nonneg (x : EReal) : 0 ≤ Ideal.exp x := by
  induction x with
  | bot => exact le_refl _
  | coe r => exact EReal.coe_nonneg.2 (Real.exp_pos r).le
  | top => exact le_top

/-- Both offsets give the same softmax. They differ only at a segment whose maximum is `+∞`: there the kernel's exponentials are all zero
    and the reference's denominator is `+∞`, and both quotients are zero. -/
theorem softmax_off (ε : EReal) (hε : 0 < ε) (n : Fin 50000) :
    softmax s b ε (fun j => offK (segMax s b j)) n = softmax s b ε (fun j => offR (segMax s b j)) n := by
  show Ideal.div (Ideal.exp (s n - offK (segMax s b (b n)))) (segSum b (fun i => Ideal.exp (s i - offK (segMax s b (b i)))) (b n) + ε)
    = Ideal.div (Ideal.exp (s n - offR (segMax s b (b n)))) (segSum b (fun i => Ideal.exp (s i - offR (segMax s b (b i)))) (b n) + ε)
  by_cases h : segMax s b (b n) = ⊤
  · have hK : offK (segMax s b (b n)) = ⊤ := by rw [h]; simp [offK]
    have hR : offR (segMax s b (b n)) = 0 := by rw [h]; simp [offR]
    -- the kernel's numerator is zero, its denominator the added constant
    have l : Ideal.div (Ideal.exp (s n - offK (segMax s b (b n)))) (segSum b (fun i => Ideal.exp (s i - offK (segMax s b (b i)))) (b n) + ε)
        = 0 := by
      have e : segSum b (fun i => Ideal.exp (s i - offK (segMax s b (b i)))) (b n) = 0 := by
        unfold segSum
        refine Finset.sum_eq_zero fun i _ => ?_
        by_cases hi : b i = b n
        · rw [if_pos hi]
          show Ideal.exp (s i - offK (segMax s b (b i))) = 0
          rw [hi, hK, EReal.sub_top, Ideal.exp_bot]
        · rw [if_neg hi]
      rw [e, hK, EReal.sub_top, Ideal.exp_bot, zero_add]
      unfold Ideal.div
      rw [if_neg hε.ne', zero_mul]
    -- the reference's denominator is infinite: it has the term of the greatest score
    have r : segSum b (fun i => Ideal.exp (s i - offR (segMax s b (b i)))) (b n) = ⊤ := by
      obtain ⟨i, hi, hs⟩ := segMax_mem s b (b n) (by rw [h]; exact top_ne_bot)
      refine top_le_iff.1 ?_
      refine le_trans ?_ (Finset.single_le_sum (f := fun i => if b i = b n then Ideal.exp (s i - offR (segMax s b (b i))) else 0)
        (fun k _ => ?_) (Finset.mem_univ i))
      · show ⊤ ≤ if b i = b n then Ideal.exp (s i - offR (segMax s b (b i))) else 0
        rw [if_pos hi, hi, hR, hs, h, sub_zero, Ideal.exp_top]
      · show 0 ≤ if b k = b n then Ideal.exp (s k - offR (segMax s b (b k))) else 0
        split
        · exact exp_nonneg _
        · exact le_refl _
    rw [l, r, EReal.top_add_of_ne_bot (ne_of_gt (lt_trans EReal.bot_lt_zero hε)), div_top]
  · have e : segSum b (fun i => Ideal.exp (s i - offK (segMax s b (b i)))) (b n)
        = segSum b (fun i => Ideal.exp (s i - offR (segMax s b (b i)))) (b n) := by
      unfold segSum
      refine Finset.sum_congr rfl fun i _ => ?_
      by_cases hi : b i = b n
      · rw [if_pos hi, if_pos hi]
        show Ideal.exp (s i - offK (segMax s b (b i))) = Ideal.exp (s i - offR (segMax s b (b i)))
        rw [hi, offK_eq_offR _ h]
      · rw [if_neg hi, if_neg hi]
    rw [e, offK_eq_offR _ h]

end Cert.Spec
-- ==== Proof.Payloads.lean ====
/-
  Hand-written, untrusted. What each of the kernel's stored vectors holds at an index, over extended real numbers: a product with a one-hot
  matrix picks the entry of the node's segment, a masked sum or maximum over a block runs over the block's nodes of one segment.
-/
module

public import proofs.«01_k».proof.Proof.Gen.KernelIdeal.Skeleton
public import proofs.«01_k».proof.Proof.Spec

@[expose] public section

set_option maxRecDepth 16384

noncomputable section

namespace Cert.KernelIdeal.AtIdeal

open Cert.KernelIdeal Cert.KernelIdeal.Gen
open Idealize.ShloMosaic
open Cert.Spec

/-- The comparison of a block's number with zero. -/
theorem zero_word : ∀ k : Fin 125, Scalar.cmpi .eq (BitVec.ofNat 32 k.val) 0#32 = if k.val = 0 then 1#1 else 0#1 := by decide +kernel

variable (ids : Vec Ideal S1x400x1 .i32) (β : Fin 400 → Fin 512)
  (hid : ∀ r : Fin 400, (ids : IVec S1x400x1 32) (ix3 0 r 0) = BitVec.ofNat 32 (β r).val)

include hid in
/-- The one-hot mask. -/
theorem pay1_at (r : Fin 400) (j : Fin 512) : (k0_pay1 (F := Ideal) ids : IVec S400x512 1) (ix2 r j) = if β r = j then 1#1 else 0#1 := by
  rw [← eq_word, ← hid r]
  unfold k0_pay1
  pointwise

include hid in
/-- The one-hot mask as numbers. -/
theorem pay2_at (r : Fin 400) (j : Fin 512) : (k0_pay2 (F := Ideal) ids : FVec Ideal S400x512 .f32) (ix2 r j) = if β r = j then 1 else 0 := by
  have h := pay1_at ids β hid r j
  unfold k0_pay2
  pointwise
  rw [h]
  split_ifs <;> simp [FloatOps.sitofp]

include hid in
/-- A row of the one-hot matrix against a column picks the column's entry at the node's segment. -/
theorem pick (a : Fin 512 → EReal) (r : Fin 400) : ∑ j, (k0_pay2 (F := Ideal) ids : FVec Ideal S400x512 .f32) (ix2 r j) * a j = a (β r) := by
  simp only [pay2_at ids β hid, ite_mul, one_mul, zero_mul]
  rw [Finset.sum_ite_eq, if_pos (Finset.mem_univ _)]

/-- The segments' part of the first layer. -/
theorem pay3_at (g : Vec Ideal S512x103 .f32) (w : Vec Ideal S103x32 .f32) (b₁ : Vec Ideal S1x32 .f32) (j : Fin 512) (k : Fin 32) :
    (k0_pay3 (F := Ideal) g w b₁ : FVec Ideal S512x32 .f32) (ix2 j k)
      = (∑ f : Fin 103, (g : FVec Ideal S512x103 .f32) (ix2 j f) * (w : FVec Ideal S103x32 .f32) (ix2 f k)) + (b₁ : FVec Ideal S1x32 .f32) (ix2 0 k) := by
  unfold k0_pay3
  pointwise

include hid in
/-- The scores of a block. -/
theorem pay9_at (x : Vec Ideal S400x256 .f32) (w : Vec Ideal S256x32 .f32) (g : Vec Ideal S512x32 .f32) (w₂ : Vec Ideal S32x1 .f32)
    (b₂ : Vec Ideal S1x1 .f32) (r : Fin 400) :
    (k0_pay9 (F := Ideal) (k0_pay2 ids) x w g w₂ b₂ : FVec Ideal S400x1 .f32) (ix2 r 0)
      = (∑ k : Fin 32, softplus ((∑ f : Fin 256, (x : FVec Ideal S400x256 .f32) (ix2 r f) * (w : FVec Ideal S256x32 .f32) (ix2 f k))
          + (g : FVec Ideal S512x32 .f32) (ix2 (β r) k)) * (w₂ : FVec Ideal S32x1 .f32) (ix2 k 0)) + (b₂ : FVec Ideal S1x1 .f32) (ix2 0 0) := by
  have p := fun (k : Fin 32) => pick ids β hid (fun j => (g : FVec Ideal S512x32 .f32) (ix2 j k)) r
  revert p
  unfold k0_pay9
  generalize k0_pay2 (F := Ideal) ids = o
  intro p
  pointwise
  simp only [p]
  refine congrArg (· + _) (Finset.sum_congr rfl fun k _ => congrArg (· * _) ?_)
  rw [if_neg (fun h => h rfl), zero_sub]
  rfl

include hid in
/-- The maxima of a block. -/
theorem pay11_at (o : FVec Ideal S400x512 .f32) (x : Vec Ideal S400x256 .f32) (w : Vec Ideal S256x32 .f32) (g : Vec Ideal S512x32 .f32) (w₂ : Vec Ideal S32x1 .f32)
    (b₂ : Vec Ideal S1x1 .f32) (j : Fin 512) (z : EReal) :
    (k0_pay11 (F := Ideal) (k0_pay1 (F := Ideal) ids) o x w g w₂ b₂ : FVec Ideal S1x512 .f32) (ix2 0 j) ≤ z
      ↔ ∀ r, β r = j → (k0_pay9 (F := Ideal) o x w g w₂ b₂ : FVec Ideal S400x1 .f32) (ix2 r 0) ≤ z := by
  have h := fun r => pay1_at ids β hid r j
  revert h
  unfold k0_pay11
  generalize k0_pay1 (F := Ideal) ids = msk
  generalize k0_pay9 (F := Ideal) o x w g w₂ b₂ = s
  intro h
  pointwise
  simp only [h]
  rw [Finset.fold_max_le, neg_inf]
  constructor
  · rintro ⟨-, q⟩ r hr
    have := q r (Finset.mem_univ r)
    rwa [if_pos hr, ValueIdx.select_one] at this
  · refine fun q => ⟨bot_le, fun r _ => ?_⟩
    split_ifs with hr
    · exact q r hr
    · exact bot_le

include hid in
/-- The exponentials of a block. -/
theorem pay5_at (s : Vec Ideal S400x1 .f32) (mm : Vec Ideal S1x512 .f32) (r : Fin 400) :
    (k0_pay5 (F := Ideal) ids s mm : FVec Ideal S400x1 .f32) (ix2 r 0)
      = Ideal.exp ((s : FVec Ideal S400x1 .f32) (ix2 r 0) - offK ((mm : FVec Ideal S1x512 .f32) (ix2 0 (β r)))) := by
  have p := fun a : Fin 512 → EReal => pick ids β hid a r
  revert p
  unfold k0_pay5
  generalize k0_pay2 (F := Ideal) ids = o
  intro p
  pointwise
  rw [p]
  rfl

include hid in
/-- The sums of a block, onto the sums so far. -/
theorem pay7_at (i : grid0.Coords) (s : Vec Ideal S400x1 .f32) (mm d : Vec Ideal S1x512 .f32) (j : Fin 512) :
    (k0_pay7 (F := Ideal) i ids s mm d : FVec Ideal S1x512 .f32) (ix2 0 j)
      = (if (i 1).val = 0 then 0 else (d : FVec Ideal S1x512 .f32) (ix2 0 j))
        + ∑ r : Fin 400, if β r = j then (k0_pay5 (F := Ideal) ids s mm : FVec Ideal S400x1 .f32) (ix2 r 0) else 0 := by
  have h := fun r => pay1_at ids β hid r j
  revert h
  unfold k0_pay7
  generalize k0_pay1 (F := Ideal) ids = msk
  generalize k0_pay5 (F := Ideal) ids s mm = e
  intro h
  pointwise
  simp only [h]
  refine congrArg₂ (· + ·) ?_ (Finset.sum_congr rfl fun r _ => ?_)
  · have hw := zero_word (i 1)
    rw [hw]
    split_ifs <;> rfl
  · split_ifs <;> rfl

include hid in
/-- The quotients of a block. -/
theorem pay8_at (e : Vec Ideal S400x1 .f32) (d : Vec Ideal S1x512 .f32) (r : Fin 400) :
    (k0_pay8 (F := Ideal) ids e d : FVec Ideal S400x1 .f32) (ix2 r 0)
      = Ideal.div ((e : FVec Ideal S400x1 .f32) (ix2 r 0)) ((d : FVec Ideal S1x512 .f32) (ix2 0 (β r)) + eps) := by
  have p := pick ids β hid (fun j => (d : FVec Ideal S1x512 .f32) (ix2 0 j)) r
  revert p
  unfold k0_pay8 eps
  generalize k0_pay2 (F := Ideal) ids = o
  intro p
  pointwise
  rw [p]

/-- The running maxima, from a block's and the ones before it. -/
theorem pay4_at (q : FVec Ideal S1x512 .f32) (w : BitVec 1) (z mm : FVec Ideal S1x512 .f32) (j : Fin 512) :
    (k0_pay4 (F := Ideal) q w z mm : FVec Ideal S1x512 .f32) (ix2 0 j)
      = max (if w = 1#1 then z (ix2 0 j) else mm (ix2 0 j)) (q (ix2 0 j)) := by
  unfold k0_pay4
  pointwise
  rfl

/-- The stored scores. -/
theorem pay10_at (o : FVec Ideal S400x512 .f32) (x : Vec Ideal S400x256 .f32) (w : Vec Ideal S256x32 .f32) (g : Vec Ideal S512x32 .f32)
    (w₂ : Vec Ideal S32x1 .f32) (b₂ : Vec Ideal S1x1 .f32) (i : S400x1.Idx) : k0_pay10 (F := Ideal) o x w g w₂ b₂ i = k0_pay9 (F := Ideal) o x w g w₂ b₂ i := by
  obtain ⟨r, k, rfl⟩ : ∃ r k, i = ix2 r k := ⟨i 0, i 1, eq_ix2 i⟩
  unfold k0_pay10
  generalize k0_pay9 (F := Ideal) o x w g w₂ b₂ = s
  pointwise

/-- The stored exponentials. -/
theorem pay6_at (s : Vec Ideal S400x1 .f32) (mm : Vec Ideal S1x512 .f32) (i : S400x1.Idx) : k0_pay6 (F := Ideal) ids s mm i = k0_pay5 (F := Ideal) ids s mm i := by
  obtain ⟨r, k, rfl⟩ : ∃ r k, i = ix2 r k := ⟨i 0, i 1, eq_ix2 i⟩
  unfold k0_pay6
  generalize k0_pay5 (F := Ideal) ids s mm = e
  pointwise

/-- What the maxima are before any block. -/
theorem pay12_at (i : S1x512.Idx) : (k0_pay12 (F := Ideal) : FVec Ideal S1x512 .f32) i = ⊥ := neg_inf

end Cert.KernelIdeal.AtIdeal
-- ==== Proof.KernelValue.lean ====
/-
  Hand-written, untrusted. The kernel's result over extended real numbers: the softmax of the nodes' scores within each segment, each
  segment's scores counted from the segment's maximum where that is finite from below and from zero where it is not.
-/
module

public import proofs.«01_k».proof.Proof.KernelIdealRun
public import proofs.«01_k».proof.Proof.Blocks
public import proofs.«01_k».proof.Proof.Payloads

@[expose] public section

set_option maxRecDepth 16384

noncomputable section

namespace Cert.KernelIdeal.AtIdeal

open Cert.KernelIdeal Cert.KernelIdeal.Gen Cert.KernelIdeal.Hand
open Idealize.ShloMosaic Idealize.ShloMosaic.TcCoe
open Cert.Spec

variable (m : (ℓ : Loc nD τ sig) → Buf (Elt Ideal) ℓ) (c : Dev nD) (b : Fin 50000 → Fin 512)
  (hb : ∀ i : Fin 50000, (m ((c : Thread nD τ).loc main_arg1) : IVec S50000 32) (ix1 i) = BitVec.ofNat 32 (b i).val)

/-- Node `r` of block `n`, the blocks counted within a phase. -/
def row (n : ℕ) (r : Fin 400) : Fin 50000 := ⟨400 * (n % 125) + r.val, by omega⟩

/-- A node's score. -/
def sc (i : Fin 50000) : EReal :=
  score (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) i (b i)

include hb in
/-- The segment numbers of a block. -/
theorem ids_at (n : ℕ) (h : n < 375) (r : Fin 400) : (idB m c n : IVec S1x400x1 32) (ix3 0 r 0) = BitVec.ofNat 32 (b (row n r)).val :=
  (idB_at m c n h r).trans (hb _)

/-- A segment's part of a hidden unit. -/
def part (G : FVec Ideal S512x103 .f32) (W : FVec Ideal S359x32 .f32) (B : FVec Ideal S32 .f32) (j : Fin 512) (k : Fin 32) : EReal :=
  (∑ f : Fin 103, G (ix2 j f) * W (ix2 ⟨256 + f.val, by omega⟩ k)) + B (ix1 k)

/-- The segments' part of the first layer. -/
theorem gS_at (j : Fin 512) (k : Fin 32) :
    (gS m c : FVec Ideal S512x32 .f32) (ix2 j k)
      = part (m ((c : Thread nD τ).loc main_arg2)) (m ((c : Thread nD τ).loc main_arg3)) (m ((c : Thread nD τ).loc main_arg4)) j k := by
  unfold gS part
  rw [pay3_at]
  simp only [gfB_at, b1B_at]
  exact congrArg (· + _) (Finset.sum_congr rfl fun f _ => congrArg (HMul.hMul (α := EReal) (β := EReal) (γ := EReal) _) (wBot_at m c 0 f k))

include hb in
/-- The scores of a block, as the first phase computes them. -/
theorem score_at (n : ℕ) (h : n < 125) (r : Fin 400) :
    (k0_pay9 (F := Ideal) (k0_pay2 (idB m c n)) (xB m c n) (wTop (w1B m c n)) (gS m c) (w2B m c n) (b2B m c n) : FVec Ideal S400x1 .f32) (ix2 r 0)
      = sc m c b (row n r) := by
  rw [pay9_at (idB m c n) (fun r => b (row n r)) (ids_at m c b hb n (by omega))]
  simp only [xB_at m c n h, gS_at, w2B_at, b2B_at]
  have e : row n r = ⟨400 * n + r.val, by omega⟩ := by unfold row; simp only [Nat.mod_eq_of_lt h]
  unfold sc score Spec.hidden part
  simp only [e]
  exact congrArg (· + _) (Finset.sum_congr rfl fun k _ => congrArg (fun z => softplus (z + _) * _)
    (Finset.sum_congr rfl fun f _ => congrArg (HMul.hMul (α := EReal) (β := EReal) (γ := EReal) _) (wTop_at m c n f k)))

include hb in
/-- The stored scores of a block. -/
theorem sB_at (n : ℕ) (h : n < 125) (r : Fin 400) : (sB m c n : FVec Ideal S400x1 .f32) (ix2 r 0) = sc m c b (row n r) := by
  unfold sB
  rw [pay10_at]
  exact score_at m c b hb n h r

/-- A node below block `n + 1` is below block `n` or in it. -/
theorem below_succ (n : ℕ) (h : n < 125) (p : Fin 50000 → Prop) :
    (∀ i : Fin 50000, i.val < 400 * (n + 1) → p i) ↔ (∀ i : Fin 50000, i.val < 400 * n → p i) ∧ ∀ r, p (row n r) := by
  have hn := Nat.mod_eq_of_lt h
  constructor
  · refine fun q => ⟨fun i hi => q i (by omega), fun r => q _ ?_⟩
    show 400 * (n % 125) + r.val < _
    omega
  · rintro ⟨q, q'⟩ i hi
    by_cases hi' : i.val < 400 * n
    · exact q i hi'
    · have := q' ⟨i.val - 400 * n, by omega⟩
      have e : row n ⟨i.val - 400 * n, by omega⟩ = i := Fin.ext (by show 400 * (n % 125) + (i.val - 400 * n) = i.val; omega)
      rwa [e] at this

include hb in
/-- What bounds the running maxima. -/
theorem mA_le (n : ℕ) (h : n ≤ 125) (j : Fin 512) (z : EReal) :
    (mA m c n : FVec Ideal S1x512 .f32) (ix2 0 j) ≤ z ↔ ∀ i : Fin 50000, i.val < 400 * n → b i = j → sc m c b i ≤ z := by
  induction n with
  | zero =>
    rw [mA_zero, pay12_at]
    exact ⟨fun _ i hi => absurd hi (by omega), fun _ => bot_le⟩
  | succ n ih =>
    have ih := ih (by omega)
    rw [mA_succ, pay4_at, max_le_iff, pay11_at (idB m c n) (fun r => b (row n r)) (ids_at m c b hb n (by omega)), below_succ n (by omega)]
    simp only [score_at m c b hb n (by omega)]
    refine and_congr ?_ Iff.rfl
    rw [← ih]
    split_ifs with hf
    · have h0 : n = 0 := by
        have := (first_iff (pt n)).1 hf
        have := pt_of_lt (n := n) (by omega)
        omega
      subst h0
      rw [mA_zero]
    · rfl

include hb in
/-- The segments' maxima. -/
theorem mA_at (j : Fin 512) : (mA m c 125 : FVec Ideal S1x512 .f32) (ix2 0 j) = segMax (sc m c b) b j := by
  refine eq_of_forall_ge_iff fun z => ?_
  rw [mA_le m c b hb 125 le_rfl, segMax_le]
  exact ⟨fun q i => q i (by have := i.isLt; omega), fun q i _ => q i⟩

/-- A node's exponential. -/
def ex (i : Fin 50000) : EReal := Ideal.exp (sc m c b i - offK (segMax (sc m c b) b (b i)))

include hb in
/-- The exponentials of a block, as the second phase computes them. -/
theorem exp_at (k n : ℕ) (hk : k < 375) (h : n < 125) (e : k % 125 = n) (r : Fin 400) :
    (k0_pay5 (F := Ideal) (idB m c k) (sB m c n) (mA m c 125) : FVec Ideal S400x1 .f32) (ix2 r 0) = ex m c b (row n r) := by
  have e' : row k r = row n r := Fin.ext (by show 400 * (k % 125) + r.val = 400 * (n % 125) + r.val; omega)
  rw [pay5_at (idB m c k) (fun r => b (row k r)) (ids_at m c b hb k hk), sB_at m c b hb n h, mA_at m c b hb, e']
  rfl

include hb in
/-- The stored exponentials of a block. -/
theorem eB_at (n : ℕ) (h : n < 125) (r : Fin 400) : (eB m c n : FVec Ideal S400x1 .f32) (ix2 r 0) = ex m c b (row n r) := by
  unfold eB
  rw [pay6_at]
  exact exp_at m c b hb (125 + n) n (by omega) h (by omega) r

/-- The sum over the nodes below block `n`. -/
def below (f : Fin 50000 → EReal) (n : ℕ) : EReal := ∑ i ∈ Finset.range (400 * n), if h : i < 50000 then f ⟨i, h⟩ else 0

/-- Below block 0 there is nothing to add. -/
theorem below_zero (f : Fin 50000 → EReal) : below f 0 = 0 := rfl

/-- A further block adds its nodes' terms. -/
theorem below_add (f : Fin 50000 → EReal) (n : ℕ) (h : n < 125) : below f (n + 1) = below f n + ∑ r : Fin 400, f (row n r) := by
  unfold below
  rw [Nat.mul_succ, Finset.sum_range_add, Finset.sum_range (n := 400)]
  refine congrArg (_ + ·) (Finset.sum_congr rfl fun r _ => ?_)
  have : 400 * n + r.val < 50000 := by omega
  rw [dif_pos this]
  exact congrArg f (Fin.ext (by show 400 * n + r.val = 400 * (n % 125) + r.val; omega))

/-- Below block 125 are all the nodes. -/
theorem below_all (f : Fin 50000 → EReal) : below f 125 = ∑ i, f i := by
  unfold below
  rw [show 400 * 125 = 50000 from rfl, Finset.sum_range]
  exact Finset.sum_congr rfl fun i _ => dif_pos i.isLt

include hb in
/-- The running sums. -/
theorem dA_below (n : ℕ) (h : n < 125) (j : Fin 512) :
    (dA m c (n + 1) : FVec Ideal S1x512 .f32) (ix2 0 j) = below (fun i => if b i = j then ex m c b i else 0) (n + 1) := by
  induction n with
  | zero =>
    rw [dA_succ, below_add _ _ h, pay7_at (idB m c (125 + 0)) (fun r => b (row (125 + 0) r)) (ids_at m c b hb (125 + 0) (by omega)),
      if_pos ((coords_one _).trans (by rw [pt_of_lt (by omega)])), below_zero]
    simp only [exp_at m c b hb (125 + 0) 0 (by omega) h (by omega)]
    rfl
  | succ n ih =>
    have e' : ∀ r, row (125 + (n + 1)) r = row (n + 1) r := fun r =>
      Fin.ext (by show 400 * ((125 + (n + 1)) % 125) + r.val = 400 * ((n + 1) % 125) + r.val; omega)
    have hc := coords_one (pt (125 + (n + 1)))
    rw [pt_of_lt (by omega)] at hc
    rw [dA_succ, below_add _ _ h, pay7_at (idB m c (125 + (n + 1))) (fun r => b (row (125 + (n + 1)) r)) (ids_at m c b hb (125 + (n + 1)) (by omega)),
      if_neg (by omega), ih (by omega)]
    simp only [exp_at m c b hb (125 + (n + 1)) (n + 1) (by omega) h (by omega), e']

include hb in
/-- The segments' sums. -/
theorem dA_at (j : Fin 512) : (dA m c 125 : FVec Ideal S1x512 .f32) (ix2 0 j) = segSum b (ex m c b) j :=
  (dA_below m c b hb 124 (by omega) j).trans (below_all _)

include hb in
/-- The quotients of a block. -/
theorem oB_at (n : ℕ) (h : n < 125) (r : Fin 400) :
    (oB m c n : FVec Ideal S400x1 .f32) (ix2 r 0) = softmax (sc m c b) b eps (fun j => offK (segMax (sc m c b) b j)) (row n r) := by
  have e' : row (250 + n) r = row n r := Fin.ext (by show 400 * ((250 + n) % 125) + r.val = 400 * (n % 125) + r.val; omega)
  unfold oB
  rw [pay8_at (idB m c (250 + n)) (fun r => b (row (250 + n) r)) (ids_at m c b hb (250 + n) (by omega)), eB_at m c b hb n h, dA_at m c b hb, e']
  rfl

include hb in
/-- The result. -/
theorem result_at (n : Fin 50000) :
    (result m c : FVec Ideal S50000x1 .f32) (ix2 n 0) = softmax (sc m c b) b eps (fun j => offK (segMax (sc m c b) b j)) n := by
  have h := oB_at m c b hb (n.val / 400) (by omega) ⟨n.val % 400, Nat.mod_lt _ (by decide)⟩
  have e : row (n.val / 400) ⟨n.val % 400, Nat.mod_lt _ (by decide)⟩ = n := Fin.ext (by show 400 * (n.val / 400 % 125) + n.val % 400 = n.val; omega)
  rw [e] at h
  rw [← h, ix2_eq_valueIdx, ix2_eq_valueIdx]
  rfl

end Cert.KernelIdeal.AtIdeal
-- ==== Proof.Repeat.lean ====
/-
  Hand-written, untrusted. The reference repeats row `j` of a table as often as segment `j` has nodes. It computes the row each node reads
  by counting: how many nodes each segment has, where each segment's run starts, and at how many starts up to a node. For nodes in
  segment order this is the node's own segment number.
-/
module

public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.Count

@[expose] public section

set_option maxRecDepth 16384

noncomputable section

namespace Cert.ReferenceIdeal.Repeat

open Cert.ReferenceIdeal Cert.ReferenceIdeal.Gen Cert.ReferenceIdeal.Value
open Idealize.ShloMosaic Idealize.ShloMosaic.Routing Idealize.ShloMosaic.ValueIdx

/-! ## Counting -/

/-- A fold over positions that adds one at each hit adds the number of hits. -/
theorem foldl_hits {ι : Type} (hit : ι → Bool) (l : List ι) (z : ℕ) :
    l.foldl (fun a n => if hit n then IntOp.addi a 1#32 else a) (BitVec.ofNat 32 z) = BitVec.ofNat 32 (z + l.countP hit) := by
  induction l generalizing z with
  | nil => rfl
  | cons n l ih =>
    rw [List.foldl_cons, List.countP_cons]
    by_cases h : hit n = true
    · rw [if_pos h, if_pos h]
      have e : IntOp.addi (BitVec.ofNat 32 z) 1#32 = BitVec.ofNat 32 (z + 1) := by
        rw [IntOp.addi, ← BitVec.ofNat_add]
      rw [e, ih, Nat.add_assoc, Nat.add_comm 1]
    · rw [if_neg h, if_neg h, ih, Nat.add_zero]

/-- How many of the first `N` nodes lie in a segment before `j`: where the run of segment `j` starts. -/
def start (g : ℕ → ℕ) (N j : ℕ) : ℕ := Nat.count (fun i => g i < j) N

/-- A segment starts no later than the end. -/
theorem start_le (g : ℕ → ℕ) (N j : ℕ) : start g N j ≤ N := Nat.count_le _

/-- For nodes in segment order the run of segment `j` starts at or before node `n` exactly when `j` is at most the node's segment. -/
theorem start_le_iff (g : ℕ → ℕ) (N j n : ℕ) (hg : ∀ a b, a ≤ b → b < N → g a ≤ g b) (hn : n < N) : start g N j ≤ n ↔ j ≤ g n := by
  have h := lt_count_iff (N := N) (Q := fun i => g i < j) (fun a b hab hb h => lt_of_le_of_lt (hg a b hab hb) h) hn
  unfold start
  constructor
  · intro h'
    by_contra hc
    exact absurd (h.1 (not_le.1 hc)) (not_lt.2 h')
  · intro h'
    by_contra hc
    exact absurd (h.2 (not_le.1 hc)) (not_lt.2 h')

/-- Of the `M` segments' starts, one more than the node's segment number lie at or before the node. -/
theorem count_starts (g : ℕ → ℕ) (N M n : ℕ) (hg : ∀ a b, a ≤ b → b < N → g a ≤ g b) (hn : n < N) (hM : g n < M) :
    Nat.count (fun j => start g N j ≤ n) M = g n + 1 := by
  have e : ∀ k, Nat.count (fun j => start g N j ≤ n) k = min k (g n + 1) := by
    intro k
    induction k with
    | zero => simp
    | succ k ih =>
      rw [Nat.count_succ, ih]
      by_cases h : k ≤ g n
      · rw [if_pos ((start_le_iff g N k n hg hn).2 h)]; omega
      · rw [if_neg fun h' => h ((start_le_iff g N k n hg hn).1 h')]; omega
  rw [e]; omega

/-- The sum of the segments' sizes before segment `j` is where its run starts. -/
theorem sum_sizes (g : ℕ → ℕ) (N j : ℕ) :
    ((List.range (j + 1)).map fun y => if y = 0 then 0 else Nat.count (fun i => g i = y - 1) N).sum = start g N j := by
  rw [List.range_succ_eq_map, List.map_cons, List.sum_cons, if_pos rfl, Nat.zero_add, List.map_map]
  have e : ((fun y => if y = 0 then 0 else Nat.count (fun i => g i = y - 1) N) ∘ Nat.succ) = fun y => Nat.count (fun i => g i = y) N := by
    funext y
    show (if y + 1 = 0 then 0 else Nat.count (fun i => g i = y + 1 - 1) N) = _
    rw [if_neg (Nat.succ_ne_zero y), Nat.add_sub_cancel]
  rw [e]
  cases j with
  | zero =>
    unfold start
    rw [count_congr_of_lt (Q := fun _ => False) N fun i _ => by simp]
    simp
  | succ x =>
    rw [sum_count_eq]
    exact count_congr_of_lt N fun i _ => Nat.lt_succ_iff.symm

/-! ## Where an update lands -/

/-- Update `i` of the scatter that counts the segments' nodes lands at `x` exactly when its index is `x`. -/
theorem lands_nodes (idx : IVec S50000x1 32) (i : Fin 50000) (x : Fin 512) :
    scatter_S512_S50000x1_S50000_n_0_0_1.resultIdx? (ix1 i) idx = some (ix1 x) ↔ (idx (ix2 i (0 : Fin 1))).toInt = (x.val : Int) := by
  rw [resultIdx?_ix1]
  have hs : scatter_S512_S50000x1_S50000_n_0_0_1.start (ix1 i) idx 0 = (idx (ix2 i (0 : Fin 1))).toInt := by
    unfold ScatterDims.start
    rw [dif_pos (by decide)]
    refine congrArg (fun k => (idx k).toInt) (funext fun a => Fin.ext ?_)
    match a with
    | ⟨0, _⟩ => rfl
    | ⟨1, _⟩ => rfl
  have hw : scatter_S512_S50000x1_S50000_n_0_0_1.window (ix1 i) 0 = 0 := by
    unfold ScatterDims.window
    rw [dif_neg (by decide)]
  rw [hs, hw]; simp

/-- Update `j` of the scatter that marks the runs' starts lands at `x` exactly when its index is `x`. -/
theorem lands_starts (idx : IVec S512x1 32) (j : Fin 512) (x : Fin 50000) :
    scatter_S50000_S512x1_S512_n_0_0_1.resultIdx? (ix1 j) idx = some (ix1 x) ↔ (idx (ix2 j (0 : Fin 1))).toInt = (x.val : Int) := by
  rw [resultIdx?_ix1]
  have hs : scatter_S50000_S512x1_S512_n_0_0_1.start (ix1 j) idx 0 = (idx (ix2 j (0 : Fin 1))).toInt := by
    unfold ScatterDims.start
    rw [dif_pos (by decide)]
    refine congrArg (fun k => (idx k).toInt) (funext fun a => Fin.ext ?_)
    match a with
    | ⟨0, _⟩ => rfl
    | ⟨1, _⟩ => rfl
  have hw : scatter_S50000_S512x1_S512_n_0_0_1.window (ix1 j) 0 = 0 := by
    unfold ScatterDims.window
    rw [dif_neg (by decide)]
  rw [hs, hw]; simp

/-- Update `i` of the scatter that sums the segments' exponentials lands at row `x` exactly when its index is `x`. -/
theorem lands_rows (idx : IVec S50000x1 32) (i : Fin 50000) (x : Fin 512) :
    scatter_S512x1_S50000x1_S50000x1_1_0_0_1.resultIdx? (ix2 i (0 : Fin 1)) idx = some (ix2 x (0 : Fin 1))
      ↔ (idx (ix2 i (0 : Fin 1))).toInt = (x.val : Int) := by
  rw [resultIdx?_ix2]
  have hs : scatter_S512x1_S50000x1_S50000x1_1_0_0_1.start (ix2 i (0 : Fin 1)) idx 0 = (idx (ix2 i (0 : Fin 1))).toInt := by
    unfold ScatterDims.start
    rw [dif_pos (by decide)]
    refine congrArg (fun k => (idx k).toInt) (funext fun a => Fin.ext ?_)
    match a with
    | ⟨0, _⟩ => rfl
    | ⟨1, _⟩ => rfl
  have hs1 : scatter_S512x1_S50000x1_S50000x1_1_0_0_1.start (ix2 i (0 : Fin 1)) idx 1 = 0 := by
    unfold ScatterDims.start
    rw [dif_neg (by decide)]
  have hw : scatter_S512x1_S50000x1_S50000x1_1_0_0_1.window (ix2 i (0 : Fin 1)) 0 = 0 := by
    unfold ScatterDims.window
    rw [dif_neg (by decide)]
  have hw1 : scatter_S512x1_S50000x1_S50000x1_1_0_0_1.window (ix2 i (0 : Fin 1)) 1 = 0 := by
    unfold ScatterDims.window
    rw [dif_pos (by decide)]
    rfl
  rw [hs, hw, hs1, hw1]; simp

/-- A scatter of ones into zeros, of `M` updates into `N` entries, counts at each entry the updates that land there. -/
theorem scatter_ones {N M : ℕ} (d : ScatterDims (shape1 N) (shape2 M 1) (shape1 M)) (x0 : IVec (shape1 N) 32) (idx : IVec (shape2 M 1) 32)
    (upd : IVec (shape1 M) 32) (f : ℕ → ℕ) (x : Fin N) (hx0 : x0 (ix1 x) = 0#32) (hupd : ∀ i, upd (ix1 i) = 1#32)
    (hl : ∀ i : Fin M, d.resultIdx? (ix1 i) idx = some (ix1 x) ↔ f i.val = x.val) :
    Host.scatter d IntOp.addi x0 idx upd (ix1 x) = BitVec.ofNat 32 (Nat.count (fun i => f i = x.val) M) := by
  rw [scatter_at, hx0]
  have e : (fun (a : BitVec 32) (n : Fin (shape1 M).numel) => if d.resultIdx? ((shape1 M).rowMajor.symm n) idx = some (ix1 x) then
        IntOp.addi a (upd ((shape1 M).rowMajor.symm n)) else a)
      = fun a n => if decide (f n.val = x.val) then IntOp.addi a 1#32 else a := by
    funext a n
    rw [symm1, hupd]
    by_cases h : f n.val = x.val
    · rw [if_pos ((hl (n.cast (numel1 M))).2 h), if_pos (decide_eq_true h)]
    · rw [if_neg fun h' => h ((hl (n.cast (numel1 M))).1 h'), if_neg fun h' => h (of_decide_eq_true h')]
  rw [e]
  refine (foldl_hits (fun n : Fin (shape1 M).numel => decide (f n.val = x.val)) _ 0).trans ?_
  rw [Nat.zero_add, countP_finRange _ (fun i => f i = x.val), numel1]

/-! ## The reference's index words -/

variable {F : FTy → Type} [FloatOps F]

/-- jax's wrap of a negative index leaves the word of a number below 2³¹. -/
theorem wrapped (x a z : BitVec 32) (k : ℕ) (hz : z = 0#32) (hx : x = BitVec.ofNat 32 k) (hk : k < 2 ^ 31) :
    Scalar.select (IntOp.cmpi .slt x z) a x = BitVec.ofNat 32 k := by
  rw [hz, wrap_of_lt x a (by rw [hx, BitVec.toNat_ofNat, Nat.mod_eq_of_lt (by omega)]; exact hk), hx]

/-- The word of a number below 2³¹ read signed is the number. -/
theorem toInt_word (k : ℕ) (hk : k < 2 ^ 31) : (BitVec.ofNat 32 k).toInt = (k : Int) := StableHlo.Predicate.toInt_ofNat_small _ hk

variable (V : Valuation τ sig (Elt F)) (b : ℕ → ℕ)
  (hb : ∀ i : Fin 50000, (V (Proc.devRef .tc main_arg1) : IVec S50000 32) (ix1 i) = BitVec.ofNat 32 (b i.val))
  (hlt : ∀ i, i < 50000 → b i < 512)
  (hmono : ∀ i k, i ≤ k → k < 50000 → b i ≤ b k)

include hb hlt in
/-- The nodes' segment numbers, cut off below at zero, are as they were. -/
theorem v1_at (i : Fin 50000) : (res_main_v1 V : IVec S50000 32) (ix1 i) = BitVec.ofNat 32 (b i.val) := by
  show IntOp.maxsi (0#32) ((V (Proc.devRef .tc main_arg1) : IVec S50000 32) (ix1 i)) = _
  rw [hb]
  have h := hlt i.val i.isLt
  generalize b i.val = k at h
  have hk : (BitVec.ofNat 32 k).toInt = (k : Int) := toInt_word k (by omega)
  unfold IntOp.maxsi
  rw [if_neg]
  simp [BitVec.slt, hk]

include hb hlt in
/-- The segments' sizes. -/
theorem v9_at (j : Fin 512) : (res_main_v9 V : IVec S512 32) (ix1 j) = BitVec.ofNat 32 (Nat.count (fun i => b i = j.val) 50000) := by
  unfold res_main_v9
  refine scatter_ones scatter_S512_S50000x1_S50000_n_0_0_1 _ _ _ b j rfl (fun _ => rfl) fun i => ?_
  rw [lands_nodes, bcCol]
  have h := hlt i.val i.isLt
  rw [show (select (cmpi .slt (res_main_v1 V) (broadcastInDim S50000 ![] bcast_S_S50000 (constantI S_ 32 0#32)))
      (addi (res_main_v1 V) (broadcastInDim S50000 ![] bcast_S_S50000 (constantI S_ 32 512#32))) (res_main_v1 V) : IVec S50000 32) (ix1 i)
      = BitVec.ofNat 32 (b i.val) from wrapped _ _ _ (b i.val) rfl (v1_at V b hb hlt i) (by omega), toInt_word _ (by omega)]
  exact Int.ofNat_inj

/-- The segments' sizes moved one place on, the last to the front, and then a zero put in front. -/
def shifted : IVec S512 32 :=
  Host.scatter scatter_S512_S1_S__n_0_0_0 (fun _ b => b)
    (concatenate S512 0 [⟨S1, (extractStridedSlice S1 ![511] (res_main_v9 V) slices_S512_S1_511)⟩,
      ⟨S511, (extractStridedSlice S511 ![0] (res_main_v9 V) slices_S512_S511_0)⟩] concatenates_S1_S511_S512_d0)
    (broadcastInDim S1 ![] bcast_S_S1 (constantI S_ 32 0#32)) (constantI S_ 32 0#32)

/-- The one update that puts the zero in front lands at entry zero. -/
theorem lands_front (k : S_.Idx) (idx : IVec S1 32) (hidx : ∀ i, idx i = 0#32) (x : Fin 512) :
    scatter_S512_S1_S__n_0_0_0.resultIdx? k idx = some (ix1 x) ↔ x.val = 0 := by
  rw [resultIdx?_ix1]
  have hs : scatter_S512_S1_S__n_0_0_0.start k idx 0 = 0 := by
    unfold ScatterDims.start
    rw [dif_pos (by decide), hidx]
    rfl
  have hw : scatter_S512_S1_S__n_0_0_0.window k 0 = 0 := by
    unfold ScatterDims.window
    rw [dif_neg (by decide)]
  rw [hs, hw]
  have := x.isLt
  omega

include hb hlt in
/-- The sizes moved on: a zero, then the size of the segment before. -/
theorem shifted_at (j : Fin 512) : shifted V (ix1 j)
    = BitVec.ofNat 32 (if j.val = 0 then 0 else Nat.count (fun i => b i = j.val - 1) 50000) := by
  unfold shifted
  by_cases h : j.val = 0
  · rw [if_pos h]
    exact scatter_set_hit _ _ _ _ _ _ (fun _ _ => rfl) ix0 ((lands_front ix0 _ (fun _ => rfl) j).2 h)
  · rw [if_neg h]
    have hj := j.isLt
    refine (scatter_set_miss _ _ _ _ _ fun k hk => h ((lands_front k _ (fun _ => rfl) j).1 hk)).trans ?_
    refine (concatenate_pair_apply_right (t := S512) (s₁ := S1) (s₂ := S511) 0 _ _ _ (ix1 j) rfl rfl
      (ix1 (⟨j.val - 1, by omega⟩ : Fin 511)) (fun b hb => ?_) ?_).trans ?_
    · exact absurd (Subsingleton.elim (α := Fin 1) _ _) hb
    · show j.val - 1 + 1 = j.val
      omega
    · refine (slice1 (m := 512) (n := 511) 0 _ _ (⟨j.val - 1, by omega⟩ : Fin 511) (by show 0 + (j.val - 1) < 512; omega)).trans ?_
      rw [v9_at V b hb hlt]
      simp only [Nat.zero_add]

include hb hlt in
/-- Where the segments' runs start. -/
theorem v13_at (j : Fin 512) : (res_main_v13 V : IVec S512 32) (ix1 j) = BitVec.ofNat 32 (start b 50000 j.val) := by
  have e : (res_main_v13 V : IVec S512 32) = Host.reduceWindow IntOp.addi ![512] ![1] ![511] ![0] (shifted V)
    (broadcastInDim S_ ![] bcast_S_S_ (constantI S_ 32 0#32)) reduceWindows_S512_S512_w512s1p511_0 h_S_ := rfl
  rw [e]
  refine (cumsum1 (N := 512) (Nm1 := 511) rfl _ (fun y => if y = 0 then 0 else Nat.count (fun i => b i = y - 1) 50000) (shifted_at V b hb hlt) _ rfl _ _ j).trans ?_
  rw [sum_sizes]

/-- The marks: at each node, how many runs start there. -/
def marks : IVec S50000 32 :=
  Host.scatter scatter_S50000_S512x1_S512_n_0_0_1 IntOp.addi (broadcastInDim S50000 ![] bcast_S_S50000 (constantI S_ 32 0#32))
    (broadcastInDim S512x1 ![0] bcast_S512_S512x1_0
      (select (cmpi .slt (res_main_v13 V) (broadcastInDim S512 ![] bcast_S_S512 (constantI S_ 32 0#32)))
        (addi (res_main_v13 V) (broadcastInDim S512 ![] bcast_S_S512 (constantI S_ 32 50000#32))) (res_main_v13 V)))
    (broadcastInDim S512 ![] bcast_S_S512 (constantI S_ 32 1#32))

include hb hlt in
/-- The marks count the runs' starts. -/
theorem marks_at (n : Fin 50000) : marks V (ix1 n) = BitVec.ofNat 32 (Nat.count (fun j => start b 50000 j = n.val) 512) := by
  unfold marks
  refine scatter_ones scatter_S50000_S512x1_S512_n_0_0_1 _ _ _ (start b 50000) n rfl (fun _ => rfl) fun j => ?_
  rw [lands_starts, bcCol]
  have h := start_le b 50000 j.val
  rw [show (select (cmpi .slt (res_main_v13 V) (broadcastInDim S512 ![] bcast_S_S512 (constantI S_ 32 0#32)))
      (addi (res_main_v13 V) (broadcastInDim S512 ![] bcast_S_S512 (constantI S_ 32 50000#32))) (res_main_v13 V) : IVec S512 32) (ix1 j)
      = BitVec.ofNat 32 (start b 50000 j.val) from wrapped _ _ _ _ rfl (v13_at V b hb hlt j) (by omega), toInt_word _ (by omega)]
  exact Int.ofNat_inj

include hb hlt hmono in
/-- The row a node reads of a table repeated by the segments' sizes is the node's own segment. -/
theorem v25_at (n : Fin 50000) : (res_main_v25 V : IVec S50000 32) (ix1 n) = BitVec.ofNat 32 (b n.val) := by
  have e : (res_main_v25 V : IVec S50000 32) (ix1 n) = IntOp.subi (Host.reduceWindow IntOp.addi ![50000] ![1] ![49999] ![0] (marks V)
    (broadcastInDim S_ ![] bcast_S_S_ (constantI S_ 32 0#32)) reduceWindows_S50000_S50000_w50000s1p49999_0 h_S_ (ix1 n)) 1#32 := rfl
  have c : Host.reduceWindow IntOp.addi ![50000] ![1] ![49999] ![0] (marks V)
      (broadcastInDim S_ ![] bcast_S_S_ (constantI S_ 32 0#32)) reduceWindows_S50000_S50000_w50000s1p49999_0 h_S_ (ix1 n)
      = BitVec.ofNat 32 (b n.val + 1) := by
    refine (cumsum1 (N := 50000) (Nm1 := 49999) rfl _ (fun y => Nat.count (fun j => start b 50000 j = y) 512) (marks_at V b hb hlt) _ rfl _ _ n).trans ?_
    rw [sum_count_eq, count_starts b 50000 512 n.val hmono n.isLt (hlt _ n.isLt)]
  rw [e, c, IntOp.subi, BitVec.ofNat_add, BitVec.add_sub_cancel]

include hb hlt hmono in
/-- The same row behind the wrap of a negative index, as a column. -/
theorem call4_v5_at (n : Fin 50000) : (res_main_call4_v5 V : IVec S50000x1 32) (ix2 n (0 : Fin 1)) = BitVec.ofNat 32 (b n.val) := by
  unfold res_main_call4_v5
  rw [bcCol]
  have h := hlt n.val n.isLt
  exact wrapped _ _ _ _ rfl (v25_at V b hb hlt hmono n) (by omega)

end Cert.ReferenceIdeal.Repeat
-- ==== Proof.RefValue.lean ====
/-
  Hand-written, untrusted. What the reference computes at a node: the softmax of the nodes' scores within the node's segment.
-/
module

public import proofs.«01_k».proof.Proof.Repeat
public import proofs.«01_k».proof.Proof.Spec
public import Idealize.ShloMosaic.Lib.Pointwise
public import Idealize.ShloMosaic.Lib.ReduceAll

@[expose] public section

set_option maxRecDepth 16384

noncomputable section

namespace Cert.ReferenceIdeal.AtIdeal

open Cert.ReferenceIdeal Cert.ReferenceIdeal.Gen Cert.ReferenceIdeal.Value Cert.ReferenceIdeal.Repeat
open Idealize.ShloMosaic Idealize.ShloMosaic.Routing
open Cert.Spec

variable (V : Valuation τ sig (Elt Ideal)) (b : Fin 50000 → Fin 512)

/-- The segment numbers as a function of every natural number. -/
def ext (i : ℕ) : ℕ := if h : i < 50000 then (b ⟨i, h⟩).val else 0

/-- On a node the extended numbering is the node's. -/
theorem ext_val (n : Fin 50000) : ext b n.val = (b n).val := by
  unfold ext
  rw [dif_pos n.isLt]

variable (hb : ∀ i : Fin 50000, (V (Proc.devRef .tc main_arg1) : IVec S50000 32) (ix1 i) = BitVec.ofNat 32 (b i).val)
  (hmono : ∀ i k : Fin 50000, i ≤ k → b i ≤ b k)

include hb in
/-- The words of the segment numbers, by the extended numbering. -/
theorem ext_hb (i : Fin 50000) : (V (Proc.devRef .tc main_arg1) : IVec S50000 32) (ValueIdx.ix1 i) = BitVec.ofNat 32 (ext b i.val) := by
  rw [ext_val, ← ix1_eq_valueIdx, hb]

/-- The extended numbering stays below 512. -/
theorem ext_lt (i : ℕ) (hi : i < 50000) : ext b i < 512 := by
  unfold ext
  rw [dif_pos hi]
  exact (b ⟨i, hi⟩).isLt

include hmono in
/-- The extended numbering ascends. -/
theorem ext_mono (i k : ℕ) (hik : i ≤ k) (hk : k < 50000) : ext b i ≤ ext b k := by
  unfold ext
  rw [dif_pos (lt_of_le_of_lt hik hk), dif_pos hk]
  exact hmono _ _ hik

include hb hmono in
/-- The word of the repeated row. -/
theorem rep_word (n : Fin 50000) : (res_main_call4_v5 V : IVec S50000x1 32) (ix2 n (0 : Fin 1)) = BitVec.ofNat 32 (b n).val := by
  rw [ix2_eq_valueIdx, call4_v5_at V (ext b) (ext_hb V b hb) (ext_lt b) (ext_mono b hmono) n, ext_val]

/-- The table repeated by the segments' sizes. -/
def repeated : FVec Ideal S50000x103 .f32 :=
  select (broadcastInDim S50000x103 ![0] bcast_S50000_S50000x103_0 (Host.reduce IntOp.andi (andi (cmpi .sge (res_main_call4_v5 V) (broadcastInDim S50000x1 ![] bcast_S_S50000x1 (constantI S_ 32 0#32))) (cmpi .sle (res_main_call4_v5 V) (broadcastInDim S50000x1 ![0, 1] bcast_S1x1_S50000x1_0_1 (broadcastInDim S1x1 ![1] bcast_S1_S1x1_1 (constantI S1 32 511#32))))) (constantI S_ 1 1#1) reducesTo_S50000x1_S50000_d1 h_S_)) (Host.gather gather_S512x103_S50000x1_S50000x103_1_0_n_n_0_1_1103 (V (Proc.devRef .tc main_arg2)) (res_main_call4_v5 V)) (broadcastInDim S50000x103 ![] bcast_S_S50000x103 (constant S_ .f32 0x7FC00000#32))

include hb hmono in
/-- Row `n` of the repeated table is the row of the node's segment: its word is in range, so nothing is filled in. -/
theorem repeated_at (n : Fin 50000) (f : Fin 103) :
    repeated V (ix2 n f) = (V (Proc.devRef .tc main_arg2) : FVec Ideal S512x103 .f32) (ix2 (b n) f) := by
  unfold repeated
  rw [ValueIdx.select_apply]
  have m : ∀ i : S50000.Idx, Host.reduce IntOp.andi (andi (cmpi .sge (res_main_call4_v5 V) (broadcastInDim S50000x1 ![] bcast_S_S50000x1 (constantI S_ 32 0#32))) (cmpi .sle (res_main_call4_v5 V) (broadcastInDim S50000x1 ![0, 1] bcast_S1x1_S50000x1_0_1 (broadcastInDim S1x1 ![1] bcast_S1_S1x1_1 (constantI S1 32 511#32))))) (constantI S_ 1 1#1) reducesTo_S50000x1_S50000_d1 h_S_ i = 1#1 := by
    intro i
    refine Host.reduce_andi_one _ _ _ _ i rfl fun y => ?_
    obtain ⟨p, q, rfl⟩ : ∃ p q, y = ix2 p q := ⟨y 0, y 1, eq_ix2 y⟩
    obtain rfl : q = 0 := Subsingleton.elim _ _
    show IntOp.andi (IntOp.cmpi .sge ((res_main_call4_v5 V : IVec S50000x1 32) (ix2 p (0 : Fin 1))) 0#32) (IntOp.cmpi .sle ((res_main_call4_v5 V : IVec S50000x1 32) (ix2 p (0 : Fin 1))) 511#32) = 1#1
    rw [rep_word V b hb hmono]
    have h := (b p).isLt
    generalize (b p).val = k at h
    have hk : (BitVec.ofNat 32 k).toInt = (k : Int) := toInt_word k (by omega)
    simp [IntOp.cmpi, IntOp.andi, BitVec.slt, BitVec.sle, hk, Nat.le_of_lt_succ h]
  have e : broadcastInDim S50000x103 ![0] bcast_S50000_S50000x103_0 (Host.reduce IntOp.andi (andi (cmpi .sge (res_main_call4_v5 V) (broadcastInDim S50000x1 ![] bcast_S_S50000x1 (constantI S_ 32 0#32))) (cmpi .sle (res_main_call4_v5 V) (broadcastInDim S50000x1 ![0, 1] bcast_S1x1_S50000x1_0_1 (broadcastInDim S1x1 ![1] bcast_S1_S1x1_1 (constantI S1 32 511#32))))) (constantI S_ 1 1#1) reducesTo_S50000x1_S50000_d1 h_S_) (ix2 n f) = 1#1 := m _
  rw [e, ValueIdx.select_one, ix2_eq_valueIdx, ix2_eq_valueIdx]
  exact gather_row _ rfl rfl rfl rfl rfl _ _ n f (b n) ((congrArg (res_main_call4_v5 V) (ix2_eq_valueIdx n 0).symm).trans (rep_word V b hb hmono n)) (by norm_num)

include hb hmono in
/-- The first layer. -/
theorem v31_at (n : Fin 50000) (k : Fin 32) : (res_main_v31 V : FVec Ideal S50000x32 .f32) (ix2 n k)
    = Spec.hidden (V (Proc.devRef .tc main_arg0)) (V (Proc.devRef .tc main_arg2)) (V (Proc.devRef .tc main_arg3)) (V (Proc.devRef .tc main_arg4))
      n (b n) k := by
  have e : (res_main_v31 V : FVec Ideal S50000x32 .f32) = addf (Host.dotGeneral (φ₂ := .f32) dot_S50000x359_S359x32_S50000x32_1_0_0_1_n_n none (concatenate S50000x359 1 [⟨S50000x256, (V (Proc.devRef .tc main_arg0))⟩, ⟨S50000x103, repeated V⟩] concatenates_S50000x256_S50000x103_S50000x359_d1) (V (Proc.devRef .tc main_arg3) : FVec Ideal S359x32 .f32)) (broadcastInDim S50000x32 ![0, 1] bcast_S1x32_S50000x32_0_1 (broadcastInDim S1x32 ![1] bcast_S32_S1x32_1 (V (Proc.devRef .tc main_arg4)))) := by
    unfold res_main_v31 repeated; rfl
  rw [e]
  unfold Spec.hidden
  pointwise
  simp only [repeated_at V b hb hmono]
  exact add_assoc (G := EReal) _ _ _

/-- The first layer's numbers. -/
abbrev layer (i : S50000x32.Idx) : EReal := (res_main_v31 V : FVec Ideal S50000x32 .f32) i

/-- The first layer's numbers less zero. -/
abbrev layer₀ (i : S50000x32.Idx) : EReal := (res_main_call5_v3 V : FVec Ideal S50000x32 .f32) i

/-- The zero that the activation compares with. -/
abbrev zeros (i : S50000x32.Idx) : EReal := broadcastInDim S50000x32 ![] bcast_S_S50000x32 (res_main_call5_cst V : FVec Ideal S_ .f32) i

/-- The scores' numbers. -/
abbrev scores (n : Fin 50000) : EReal := (res_main_v36 V : FVec Ideal S50000x1 .f32) (ix2 n 0)

include hb hmono in
/-- The activation of the first layer. -/
theorem act_at (n : Fin 50000) (k : Fin 32) : (select (cmpf .une (res_main_call5_v3 V) (res_main_call5_v3 V)) (addf (res_main_v31 V) (broadcastInDim S50000x32 ![] bcast_S_S50000x32 (res_main_call5_cst V))) (addf (maximumf (res_main_v31 V) (broadcastInDim S50000x32 ![] bcast_S_S50000x32 (res_main_call5_cst V))) (Host.log1p (Host.exp (Host.negf (Host.absf (res_main_call5_v3 V)))))) : FVec Ideal S50000x32 .f32) (ix2 n k)
    = softplus (Spec.hidden (V (Proc.devRef .tc main_arg0)) (V (Proc.devRef .tc main_arg2)) (V (Proc.devRef .tc main_arg3)) (V (Proc.devRef .tc main_arg4))
      n (b n) k) := by
  have z : ∀ i, zeros V i = 0 := fun i => Ideal.ofBits_zero_f32
  have d : ∀ i, layer₀ V i = layer V i := fun i => by
    show layer V i - zeros V i = _
    rw [z, sub_zero]
  have c : FloatOps.cmpf (F := Ideal) (φ := .f32) .une (layer₀ V (ix2 n k)) (layer₀ V (ix2 n k)) = 0#1 := by
    show Ideal.cmp .une (layer₀ V (ix2 n k)) (layer₀ V (ix2 n k)) = 0#1
    simp [Ideal.cmp]
  rw [← v31_at V b hb hmono, ValueIdx.select_apply, ValueIdx.cmpf_apply, c, ValueIdx.select_zero]
  show max (layer V (ix2 n k)) (zeros V (ix2 n k)) + Ideal.log1p (Ideal.exp (-(max (layer₀ V (ix2 n k)) (-(layer₀ V (ix2 n k))))))
    = softplus (layer V (ix2 n k))
  rw [z, d]
  rfl

include hb hmono in
/-- The scores. -/
theorem v36_at (n : Fin 50000) : (res_main_v36 V : FVec Ideal S50000x1 .f32) (ix2 n 0)
    = score (V (Proc.devRef .tc main_arg0)) (V (Proc.devRef .tc main_arg2)) (V (Proc.devRef .tc main_arg3)) (V (Proc.devRef .tc main_arg4))
      (V (Proc.devRef .tc main_arg5)) (V (Proc.devRef .tc main_arg6)) n (b n) := by
  unfold res_main_v36 score
  have a := act_at V b hb hmono n
  revert a
  generalize (select (cmpf .une (res_main_call5_v3 V) (res_main_call5_v3 V)) (addf (res_main_v31 V) (broadcastInDim S50000x32 ![] bcast_S_S50000x32 (res_main_call5_cst V))) (addf (maximumf (res_main_v31 V) (broadcastInDim S50000x32 ![] bcast_S_S50000x32 (res_main_call5_cst V))) (Host.log1p (Host.exp (Host.negf (Host.absf (res_main_call5_v3 V)))))) : FVec Ideal S50000x32 .f32) = A
  intro a
  pointwise
  simp only [a]

include hb in
/-- The segments' maxima. -/
theorem v45_at (j : Fin 512) : (res_main_v45 V : FVec Ideal S512x1 .f32) (ix2 j 0) = segMax (scores V) b j := by
  unfold res_main_v45 segMax
  pointwise
  rw [neg_inf]
  unfold Finset.sup
  refine Finset.fold_congr fun n _ => ?_
  rw [hb, eq_word]
  split
  · rfl
  · exact neg_inf

/-- The column of the nodes' segment numbers behind the wrap of a negative index. -/
def rows : IVec S50000x1 32 :=
  broadcastInDim S50000x1 ![0] bcast_S50000_S50000x1_0 (select (cmpi .slt (V (Proc.devRef .tc main_arg1)) (broadcastInDim S50000 ![] bcast_S_S50000 (constantI S_ 32 0#32))) (addi (V (Proc.devRef .tc main_arg1)) (broadcastInDim S50000 ![] bcast_S_S50000 (constantI S_ 32 512#32))) (V (Proc.devRef .tc main_arg1)))

include hb in
/-- The column of segment numbers at a node. -/
theorem rows_at (n : Fin 50000) : rows V (ValueIdx.ix2 n (0 : Fin 1)) = BitVec.ofNat 32 (b n).val := by
  unfold rows
  rw [bcCol]
  have h := (b n).isLt
  refine wrapped _ _ _ _ rfl ?_ (by omega)
  rw [← ix1_eq_valueIdx, hb]

include hb in
/-- A column over the segments, read at each node's segment. -/
theorem gather_at (x : FVec Ideal S512x1 .f32) (n : Fin 50000) :
    Host.gather gather_S512x1_S50000x1_S50000x1_1_0_n_n_0_1_11 x (rows V) (ix2 n (0 : Fin 1)) = x (ix2 (b n) (0 : Fin 1)) := by
  rw [ix2_eq_valueIdx, ix2_eq_valueIdx]
  exact gather_row _ rfl rfl rfl rfl rfl _ _ n 0 (b n) (rows_at V b hb n) (by norm_num)

/-- The maxima's numbers. -/
abbrev maxima (i : S512x1.Idx) : EReal := (res_main_v45 V : FVec Ideal S512x1 .f32) i

/-- The exponentials' numbers. -/
abbrev exps (i : S50000x1.Idx) : EReal := (res_main_v58 V : FVec Ideal S50000x1 .f32) i

/-- The segments' offsets: the maxima where they are finite. -/
def offs : FVec Ideal S512x1 .f32 :=
  select (cmpf .olt (Host.absf (res_main_v45 V)) (broadcastInDim S512x1 ![] bcast_S_S512x1 (constant S_ .f32 0x7F800000#32))) (res_main_v45 V) (broadcastInDim S512x1 ![] bcast_S_S512x1 (id (constant S_ .f32 0x00000000#32)))

/-- A number where it is finite, and zero elsewhere. -/
theorem off_select (w : FVec Ideal S512x1 .f32) (j : Fin 512) :
    select (cmpf .olt (Host.absf w) (broadcastInDim S512x1 ![] bcast_S_S512x1 (constant S_ .f32 0x7F800000#32))) w (broadcastInDim S512x1 ![] bcast_S_S512x1 (id (constant S_ .f32 0x00000000#32))) (ix2 j (0 : Fin 1))
      = offR (w (ix2 j 0)) := by
  pointwise
  have z : id (constant S_ .f32 0x00000000#32 : FVec Ideal S_ .f32) ix0 = (0 : EReal) := Ideal.ofBits_zero_f32
  rw [pos_inf, z]
  rfl

include hb in
/-- The offset of a segment. -/
theorem offs_at (j : Fin 512) : offs V (ix2 j (0 : Fin 1)) = offR (segMax (scores V) b j) := by
  unfold offs
  rw [off_select, v45_at V b hb]

include hb in
/-- The exponentials. -/
theorem v58_at (n : Fin 50000) : (res_main_v58 V : FVec Ideal S50000x1 .f32) (ix2 n 0)
    = Ideal.exp (scores V n - offR (segMax (scores V) b (b n))) := by
  rw [← offs_at V b hb, ← gather_at V b hb (offs V)]
  rfl

/-- The segments' sums. -/
def sums : FVec Ideal S512x1 .f32 :=
  Host.scatterAdd scatter_S512x1_S50000x1_S50000x1_1_0_0_1 (broadcastInDim S512x1 ![] bcast_S_S512x1 (constant S_ .f32 0x00000000#32)) (broadcastInDim S50000x1 ![0] bcast_S50000_S50000x1_0 (V (Proc.devRef .tc main_arg1))) (res_main_v58 V)

include hb in
/-- A segment's sum of exponentials. -/
theorem sums_at (j : Fin 512) : sums V (ix2 j (0 : Fin 1))
    = segSum b (fun i => Ideal.exp (scores V i - offR (segMax (scores V) b (b i)))) j := by
  have e : sums V (ix2 j (0 : Fin 1)) = Ideal.ofBits .f32 0x00000000#32 + ∑ i ∈ Finset.univ.filter (fun i => scatter_S512x1_S50000x1_S50000x1_1_0_0_1.resultIdx? i
      (broadcastInDim S50000x1 ![0] bcast_S50000_S50000x1_0 (V (Proc.devRef .tc main_arg1)) : IVec S50000x1 32) = some (ix2 j (0 : Fin 1))),
      exps V i := rfl
  rw [e, Ideal.ofBits_zero_f32, zero_add, Finset.sum_filter, sum_idx2]
  unfold segSum
  refine Finset.sum_congr rfl fun n _ => ?_
  have x : exps V (ix2 n 0) = _ := v58_at V b hb n
  rw [Fin.sum_univ_one, x]
  have l := lands_rows (broadcastInDim S50000x1 ![0] bcast_S50000_S50000x1_0 (V (Proc.devRef .tc main_arg1)) : IVec S50000x1 32) n j
  rw [bcCol, ext_hb V b hb, ext_val, toInt_word _ (by have := (b n).isLt; omega)] at l
  rw [ix2_eq_valueIdx, ix2_eq_valueIdx]
  by_cases h : b n = j
  · rw [if_pos h, if_pos (l.2 (by rw [h]))]
  · rw [if_neg h, if_neg fun h' => h (Fin.ext (Int.ofNat_inj.1 (l.1 h')))]

/-- A quotient by a column to which the small constant is added. -/
theorem div_add (x y : FVec Ideal S50000x1 .f32) (n : Fin 50000) :
    Host.divf x (addf y (broadcastInDim S50000x1 ![] bcast_S_S50000x1 (constant S_ .f32 0x24E69595#32))) (ix2 n 0)
      = Ideal.div (x (ix2 n 0)) (y (ix2 n 0) + eps) := by
  unfold eps
  pointwise

/-- The reference's result. -/
def out : FVec Ideal S50000x1 .f32 :=
  Host.divf (res_main_v58 V) (addf (Host.gather gather_S512x1_S50000x1_S50000x1_1_0_n_n_0_1_11 (Host.scatterAdd scatter_S512x1_S50000x1_S50000x1_1_0_0_1 (broadcastInDim S512x1 ![] bcast_S_S512x1 (constant S_ .f32 0x00000000#32)) (broadcastInDim S50000x1 ![0] bcast_S50000_S50000x1_0 (V (Proc.devRef .tc main_arg1))) (res_main_v58 V)) (broadcastInDim S50000x1 ![0] bcast_S50000_S50000x1_0 (select (cmpi .slt (V (Proc.devRef .tc main_arg1)) (broadcastInDim S50000 ![] bcast_S_S50000 (constantI S_ 32 0#32))) (addi (V (Proc.devRef .tc main_arg1)) (broadcastInDim S50000 ![] bcast_S_S50000 (constantI S_ 32 512#32))) (V (Proc.devRef .tc main_arg1))))) (broadcastInDim S50000x1 ![] bcast_S_S50000x1 (constant S_ .f32 0x24E69595#32)))

include hb hmono in
/-- The reference's result at a node is the softmax of the scores within the node's segment. -/
theorem out_at (n : Fin 50000) : out V (ix2 n 0)
    = softmax (fun i => score (V (Proc.devRef .tc main_arg0)) (V (Proc.devRef .tc main_arg2)) (V (Proc.devRef .tc main_arg3))
        (V (Proc.devRef .tc main_arg4)) (V (Proc.devRef .tc main_arg5)) (V (Proc.devRef .tc main_arg6)) i (b i)) b eps
      (fun j => offR (segMax (fun i => score (V (Proc.devRef .tc main_arg0)) (V (Proc.devRef .tc main_arg2)) (V (Proc.devRef .tc main_arg3))
        (V (Proc.devRef .tc main_arg4)) (V (Proc.devRef .tc main_arg5)) (V (Proc.devRef .tc main_arg6)) i (b i)) b j)) n := by
  rw [← show scores V = _ from funext fun i => v36_at V b hb hmono i]
  unfold softmax
  rw [← sums_at V b hb, ← v58_at V b hb, ← gather_at V b hb (sums V)]
  exact div_add _ _ n

end Cert.ReferenceIdeal.AtIdeal
-- ==== Proof.Algebra.lean ====
/-
  Hand-written, untrusted. On nodes sorted by segment, segment numbers between 0 and 511, the idealized kernel's result is the reference's.
-/
module

public import proofs.«01_k».proof.Proof.Gen.Pre_sorted_ids
public import proofs.«01_k».proof.Proof.KernelValue
public import proofs.«01_k».proof.Proof.RefValue

@[expose] public section

set_option maxRecDepth 16384

noncomputable section

namespace Cert.Algebra

open Idealize.ShloMosaic Idealize.ShloMosaic.TcCoe
open Cert.Spec
open Cert.Pre_sorted_ids (S50000 S49999)

/-- The first half of the precondition: every segment number is between 0 and 511. -/
theorem range_of (x : IVec S50000 32) (a0 a2 a3 a4 a5 a6) (h : (Cert.Pre_sorted_ids.fn (F := Ideal) a0 x a2 a3 a4 a5 a6).1 = fun _ => 1#1) (i : Fin 50000) :
    (x (ix1 i)).toNat < 512 := by
  have e := congrFun h (ix1 i)
  unfold Cert.Pre_sorted_ids.fn at e
  pointwise at e
  rw [WordCmp.andi_sge_zero_slt_ofNat (k := 512) (by decide)] at e
  by_contra hlt
  rw [decide_eq_false hlt] at e
  exact absurd e (by decide)

/-- The second half: no segment number is less than the one before it. -/
theorem step_of (x : IVec S50000 32) (a0 a2 a3 a4 a5 a6) (h : (Cert.Pre_sorted_ids.fn (F := Ideal) a0 x a2 a3 a4 a5 a6).2 = fun _ => 1#1) (i : Fin 49999) :
    (x (ix1 ⟨i.val, by omega⟩)).toInt ≤ (x (ix1 ⟨i.val + 1, by omega⟩)).toInt := by
  have e := congrFun h (ix1 i)
  unfold Cert.Pre_sorted_ids.fn at e
  pointwise at e
  rw [WordCmp.cmpi_sge_eq] at e
  have e' : (⟨1 + i.val, by omega⟩ : Fin 50000) = ⟨i.val + 1, by omega⟩ := Fin.ext (Nat.add_comm 1 i.val)
  rw [e'] at e
  by_contra hlt
  rw [decide_eq_false hlt] at e
  exact absurd e (by decide)

/-- Words in range and ascending are the words of an ascending family of segments. -/
theorem segs_of (x : IVec S50000 32) (hr : ∀ i : Fin 50000, (x (ix1 i)).toNat < 512)
    (hs : ∀ i : Fin 49999, (x (ix1 ⟨i.val, by omega⟩)).toInt ≤ (x (ix1 ⟨i.val + 1, by omega⟩)).toInt) :
    ∃ b : Fin 50000 → Fin 512, (∀ i, x (ix1 i) = BitVec.ofNat 32 (b i).val) ∧ ∀ i k, i ≤ k → b i ≤ b k := by
  refine ⟨fun i => ⟨(x (ix1 i)).toNat, hr i⟩, fun i => ((BitVec.ofNat_toNat ..).trans (BitVec.setWidth_eq _)).symm, ?_⟩
  have step : ∀ n (h : n + 1 < 50000), (x (ix1 ⟨n, by omega⟩)).toNat ≤ (x (ix1 ⟨n + 1, h⟩)).toNat := fun n h => by
    have e : (x (ix1 ⟨n, by omega⟩)).toInt ≤ (x (ix1 ⟨n + 1, h⟩)).toInt := hs ⟨n, by omega⟩
    have r := hr ⟨n, by omega⟩
    have r' := hr ⟨n + 1, h⟩
    rw [BitVec.toInt_eq_toNat_of_lt (by omega), BitVec.toInt_eq_toNat_of_lt (by omega)] at e
    exact_mod_cast e
  have all : ∀ d n (h : n + d < 50000), (x (ix1 ⟨n, by omega⟩)).toNat ≤ (x (ix1 ⟨n + d, h⟩)).toNat := by
    intro d
    induction d with
    | zero => exact fun n h => le_rfl
    | succ d ih => exact fun n h => (ih n (by omega)).trans (step (n + d) h)
  intro i k hik
  have := all (k.val - i.val) i.val (by omega)
  have e : (⟨i.val + (k.val - i.val), by omega⟩ : Fin 50000) = k := Fin.ext (by show i.val + (k.val - i.val) = k.val; have : i.val ≤ k.val := hik; omega)
  rw [e] at this
  exact this

/-- From equal arguments the two results are equal. -/
theorem results_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) (b : Fin 50000 → Fin 512)
    (hb : ∀ i : Fin 50000, (m ((c : Thread Cert.KernelIdeal.nD Cert.KernelIdeal.τ).loc Cert.KernelIdeal.main_arg1) : IVec S50000 32) (ix1 i) = BitVec.ofNat 32 (b i).val)
    (hmono : ∀ i k : Fin 50000, i ≤ k → b i ≤ b k)
    (h0 : V (Proc.devRef .tc Cert.ReferenceIdeal.main_arg0) = m ((c : Thread Cert.KernelIdeal.nD Cert.KernelIdeal.τ).loc Cert.KernelIdeal.main_arg0))
    (h1 : V (Proc.devRef .tc Cert.ReferenceIdeal.main_arg1) = m ((c : Thread Cert.KernelIdeal.nD Cert.KernelIdeal.τ).loc Cert.KernelIdeal.main_arg1))
    (h2 : V (Proc.devRef .tc Cert.ReferenceIdeal.main_arg2) = m ((c : Thread Cert.KernelIdeal.nD Cert.KernelIdeal.τ).loc Cert.KernelIdeal.main_arg2))
    (h3 : V (Proc.devRef .tc Cert.ReferenceIdeal.main_arg3) = m ((c : Thread Cert.KernelIdeal.nD Cert.KernelIdeal.τ).loc Cert.KernelIdeal.main_arg3))
    (h4 : V (Proc.devRef .tc Cert.ReferenceIdeal.main_arg4) = m ((c : Thread Cert.KernelIdeal.nD Cert.KernelIdeal.τ).loc Cert.KernelIdeal.main_arg4))
    (h5 : V (Proc.devRef .tc Cert.ReferenceIdeal.main_arg5) = m ((c : Thread Cert.KernelIdeal.nD Cert.KernelIdeal.τ).loc Cert.KernelIdeal.main_arg5))
    (h6 : V (Proc.devRef .tc Cert.ReferenceIdeal.main_arg6) = m ((c : Thread Cert.KernelIdeal.nD Cert.KernelIdeal.τ).loc Cert.KernelIdeal.main_arg6)) :
    Cert.ReferenceIdeal.AtIdeal.out V = Cert.KernelIdeal.Hand.result m c := by
  have key : ∀ n : Fin 50000, Cert.ReferenceIdeal.AtIdeal.out V (ix2 n 0) = Cert.KernelIdeal.Hand.result m c (ix2 n 0) := fun n => by
    have hk := Cert.KernelIdeal.AtIdeal.result_at m c b hb n
    rw [softmax_off _ _ _ eps_pos] at hk
    have hr := Cert.ReferenceIdeal.AtIdeal.out_at V b (fun i => by rw [h1]; exact hb i) hmono n
    rw [h0, h2, h3, h4, h5, h6] at hr
    exact hr.trans hk.symm
  funext i
  obtain ⟨n, k, rfl⟩ : ∃ n k, i = ix2 n k := ⟨i 0, i 1, eq_ix2 i⟩
  have hk : k = 0 := Subsingleton.elim _ _
  subst hk
  exact key n

end Cert.Algebra
-- ==== Proof.lean ====
module

public import proofs.«01_k».proof.Defs
public import proofs.«01_k».proof.Proof.Gen.Pre_sorted_ids
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates, leaves its arguments as they were and every semaphore counter at zero. -/
theorem frame_kernel : Cert.quiescent_Kernel := fun m g _ =>
  (θ_run _ _ _).mono (fun _ h => ⟨fun c => (h.1 c).2, h.2⟩) (Cert.Kernel.Hand.run m g)

/-- The same of the idealized kernel. -/
theorem frame_ideal : Cert.quiescent_KernelIdeal := fun m g _ =>
  (θ_run _ _ _).mono (fun _ h => ⟨fun c => (h.1 c).2, h.2⟩) (Cert.KernelIdeal.Hand.run m g)

/-- The same of the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The bound the kernel tests a segment's maximum against is named, and its name stands for minus infinity. -/
theorem preserves : Cert.preserves_Kernel_KernelIdeal :=
  IdealRules.named_const.statement Cert.KernelIdeal.κ "no_score" .f32 0xFF61B1E6#32 ⊥ rfl

/-- Over extended real numbers, on nodes sorted by segment with segment numbers between 0 and 511, the idealized kernel's result is the
    reference's. -/
theorem algebraic : Cert.algebraic_KernelIdeal_ReferenceIdeal_pre_sorted_ids := fun m g m' g' hp ha => by
  refine ⟨fun c => Cert.KernelIdeal.Hand.result m c, (θ_run _ _ _).mono (fun _ h c => h.1 c) (Cert.KernelIdeal.Hand.run m g),
    (θ_run _ _ _).mono (fun _ h c => ⟨(h c).1.trans ?_, (h c).2⟩) (Cert.ReferenceIdeal.Value.run m' g')⟩
  obtain ⟨b, hb, hmono⟩ := Cert.Algebra.segs_of _ (Cert.Algebra.range_of _ _ _ _ _ _ _ (hp c).1) (Cert.Algebra.step_of _ _ _ _ _ _ _ (hp c).2)
  obtain ⟨h0, h1, h2, h3, h4, h5, h6⟩ := ha c
  exact Cert.Algebra.results_eq m c (StableHlo.launchContents m' c) b hb hmono h0 h1 h2 h3 h4 h5 h6

/-- The certificate's claim: the frames, the named constant and the equality of the results. -/
theorem claim : Cert.Claim := ⟨Cert.Kernel.Gen.facts, Cert.KernelIdeal.Gen.facts, Cert.ReferenceIdeal.Gen.facts, Cert.Pre_sorted_ids.Gen.facts,
  frame_kernel, frame_ideal, fun m g _ => frame_ideal m g trivial, frame_reference, fun m g _ => frame_reference m g trivial, preserves, algebraic⟩

end Cert.Proof

end
